-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_local" .f32 0x3E4CCCCD#32 ((1 / 5 : ℝ) : EReal)
  ∧ IdealRules.named_const.Statement Cert.KernelIdeal.κ "inv_trend" .f32 0x3DBA2E8C#32 ((1 / 11 : ℝ) : EReal)
  ∧ IdealRules.named_const.Statement Cert.KernelIdeal.κ "blend" .f32 0x3ECCCCCD#32 ((2 / 5 : ℝ) : EReal)
  ∧ IdealRules.named_const.Statement Cert.KernelIdeal.κ "trend_scaling" .f32 0x3F19999A#32 ((3 / 5 : ℝ) : EReal)
  ∧ IdealRules.named_const.Statement Cert.KernelIdeal.κ "blend_local" .f32 0x3DA3D70A#32 ((2 / 25 : ℝ) : EReal)
  ∧ IdealRules.named_const.Statement Cert.KernelIdeal.κ "blend_trend" .f32 0x3D5F6B0E#32 ((3 / 55 : ℝ) : EReal)
  ∧ IdealRules.named_const.Statement Cert.KernelIdeal.κ "inv_dof" .f32 0x37800080#32 ((1 / 65535 : ℝ) : EReal)
  ∧ IdealRules.named_const.Statement Cert.KernelIdeal.κ "detail_spike" .f32 0x3E9851EC#32 ((119 / 400 : ℝ) : EReal)
  ∧ IdealRules.named_const.Statement Cert.KernelIdeal.κ "detail" .f32 0x3F59999A#32 ((17 / 20 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x8x65536 : Shape := ⟨3, ![16, 8, 65536]⟩
abbrev S_ : Shape := ⟨0, ![]⟩

class Facts : Prop where
  bcast_S_S16x8x65536 : S_.BroadcastsInDim S16x8x65536 (![] : Fin 0 → Fin S16x8x65536.rank)

variable [Facts]

def fn {F : FTy → Type} [FloatOps F] (main_arg0 : FVec F S16x8x65536 .f32) : IVec S16x8x65536 1 :=
  let main_v0 : FVec F S16x8x65536 .f32 := Host.absf main_arg0
  let main_cst : FVec F S_ .f32 := constant S_ .f32 0x7F800000#32
  let main_v1 : FVec F S16x8x65536 .f32 := broadcastInDim S16x8x65536 ![] bcast_S_S16x8x65536 main_cst
  let main_v2 : IVec S16x8x65536 1 := cmpf .olt main_v0 main_v1
  main_v2
-- ==== Kernel.lean ====
abbrev S16x8x65536 : Shape := ⟨3, ![16, 8, 65536]⟩
abbrev S128x65536 : Shape := ⟨2, ![128, 65536]⟩
abbrev S8x65536 : Shape := ⟨2, ![8, 65536]⟩
abbrev S8x65792 : Shape := ⟨2, ![8, 65792]⟩
abbrev S256x128 : Shape := ⟨2, ![256, 128]⟩
abbrev S8x128 : Shape := ⟨2, ![8, 128]⟩
abbrev S8x256 : Shape := ⟨2, ![8, 256]⟩
abbrev S8 : Shape := ⟨1, ![8]⟩
abbrev S8x1 : Shape := ⟨2, ![8, 1]⟩

abbrev nBuf : Space → Nat
  | .hbm => 3
  | .vmem => 9
  | .smem => 0
  | _ => 0

abbrev bufTy : (tb : Table) → Fin (tcTables nBuf tb) → BufTy
  | .hbm, ⟨0, _⟩ => ⟨S16x8x65536, .f32⟩
  | .hbm, ⟨1, _⟩ => ⟨S128x65536, .f32⟩
  | .hbm, ⟨2, _⟩ => ⟨S128x65536, .f32⟩
  | .local _ .vmem, ⟨0, _⟩ => ⟨S8x65536, .f32⟩
  | .local _ .vmem, ⟨1, _⟩ => ⟨S8x65536, .f32⟩
  | .local _ .vmem, ⟨2, _⟩ => ⟨S8x65536, .f32⟩
  | .local _ .vmem, ⟨3, _⟩ => ⟨S8x65536, .f32⟩
  | .local _ .vmem, ⟨4, _⟩ => ⟨S8x65792, .f32⟩
  | .local _ .vmem, ⟨5, _⟩ => ⟨S8x65792, .f32⟩
  | .local _ .vmem, ⟨6, _⟩ => ⟨S8x65792, .f32⟩
  | .local _ .vmem, ⟨7, _⟩ => ⟨S8x65536, .f32⟩
  | .local _ .vmem, ⟨8, _⟩ => ⟨S8x65536, .f32⟩
  | _, _ => ⟨S16x8x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "blend" => some ((2 / 5 : ℝ) : EReal)
  | "blend_local" => some ((2 / 25 : ℝ) : EReal)
  | "blend_trend" => some ((3 / 55 : ℝ) : EReal)
  | "detail" => some ((17 / 20 : ℝ) : EReal)
  | "detail_spike" => some ((119 / 400 : ℝ) : EReal)
  | "inv_dof" => some ((1 / 65535 : ℝ) : EReal)
  | "inv_local" => some ((1 / 5 : ℝ) : EReal)
  | "inv_trend" => some ((1 / 11 : ℝ) : EReal)
  | "trend_scaling" => some ((3 / 5 : ℝ) : EReal)
  | _ => none
-- ==== ReferenceIdeal.lean ====
abbrev S16x8x65536 : Shape := ⟨3, ![16, 8, 65536]⟩
abbrev S_ : Shape := ⟨0, ![]⟩
abbrev S16x8x1 : Shape := ⟨3, ![16, 8, 1]⟩
abbrev S16x8x5 : Shape := ⟨3, ![16, 8, 5]⟩
abbrev S16x8x65541 : Shape := ⟨3, ![16, 8, 65541]⟩
abbrev S16x8x65546 : Shape := ⟨3, ![16, 8, 65546]⟩
abbrev S1x1x1 : Shape := ⟨3, ![1, 1, 1]⟩
abbrev S16x8x2 : Shape := ⟨3, ![16, 8, 2]⟩
abbrev S16x8x65538 : Shape := ⟨3, ![16, 8, 65538]⟩
abbrev S16x8x65540 : Shape := ⟨3, ![16, 8, 65540]⟩
abbrev S16x8 : Shape := ⟨2, ![16, 8]⟩
abbrev S16x8x65537 : Shape := ⟨3, ![16, 8, 65537]⟩
abbrev S32767 : Shape := ⟨1, ![32767]⟩
abbrev S32767x1 : Shape := ⟨2, ![32767, 1]⟩
abbrev S5 : Shape := ⟨1, ![5]⟩
abbrev S1x5 : Shape := ⟨2, ![1, 5]⟩
abbrev S32767x5 : Shape := ⟨2, ![32767, 5]⟩
abbrev S163835 : Shape := ⟨1, ![163835]⟩
abbrev S128x65537 : Shape := ⟨2, ![128, 65537]⟩
abbrev S163835x1 : Shape := ⟨2, ![163835, 1]⟩
abbrev S128x163835 : Shape := ⟨2, ![128, 163835]⟩
abbrev S65537 : Shape := ⟨1, ![65537]⟩
abbrev S1x65537 : Shape := ⟨2, ![1, 65537]⟩
abbrev S128x65536 : Shape := ⟨2, ![128, 65536]⟩

abbrev nBuf : Space → Nat
  | .hbm => 380
  | .vmem => 0
  | .smem => 0
  | _ => 0

abbrev hbmTy0_0 (i : Nat) : BufTy := match i % 128 with
  | 0 => ⟨S16x8x65536, .f32⟩
  | 1 => ⟨S_, .i32⟩
  | 2 => ⟨S16x8x1, .f32⟩
  | 3 => ⟨S16x8x5, .f32⟩
  | 4 => ⟨S16x8x5, .f32⟩
  | 5 => ⟨S16x8x65541, .f32⟩
  | 6 => ⟨S16x8x1, .f32⟩
  | 7 => ⟨S16x8x5, .f32⟩
  | 8 => ⟨S16x8x5, .f32⟩
  | 9 => ⟨S16x8x65546, .f32⟩
  | 10 => ⟨S_, .f32⟩
  | 11 => ⟨S1x1x1, .f32⟩
  | 12 => ⟨S_, .f32⟩
  | 13 => ⟨S1x1x1, .f32⟩
  | 14 => ⟨S1x1x1, .f32⟩
  | 15 => ⟨S16x8x65546, .f32⟩
  | 16 => ⟨S16x8x65546, .f32⟩
  | 17 => ⟨S16x8x65536, .f32⟩
  | 18 => ⟨S16x8x65536, .f32⟩
  | 19 => ⟨S16x8x65536, .f32⟩
  | 20 => ⟨S16x8x65536, .f32⟩
  | 21 => ⟨S16x8x65536, .f32⟩
  | 22 => ⟨S16x8x65536, .f32⟩
  | 23 => ⟨S16x8x65536, .f32⟩
  | 24 => ⟨S16x8x65536, .f32⟩
  | 25 => ⟨S16x8x65536, .f32⟩
  | 26 => ⟨S16x8x65536, .f32⟩
  | 27 => ⟨S16x8x65536, .f32⟩
  | 28 => ⟨S16x8x65536, .f32⟩
  | 29 => ⟨S16x8x65536, .f32⟩
  | 30 => ⟨S16x8x65536, .f32⟩
  | 31 => ⟨S16x8x65536, .f32⟩
  | 32 => ⟨S16x8x65536, .f32⟩
  | 33 => ⟨S16x8x65536, .f32⟩
  | 34 => ⟨S16x8x65536, .f32⟩
  | 35 => ⟨S16x8x65536, .f32⟩
  | 36 => ⟨S16x8x65536, .f32⟩
  | 37 => ⟨S16x8x65536, .f32⟩
  | 38 => ⟨S_, .i32⟩
  | 39 => ⟨S16x8x1, .f32⟩
  | 40 => ⟨S16x8x2, .f32⟩
  | 41 => ⟨S16x8x2, .f32⟩
  | 42 => ⟨S16x8x65538, .f32⟩
  | 43 => ⟨S16x8x1, .f32⟩
  | 44 => ⟨S16x8x2, .f32⟩
  | 45 => ⟨S16x8x2, .f32⟩
  | 46 => ⟨S16x8x65540, .f32⟩
  | 47 => ⟨S_, .f32⟩
  | 48 => ⟨S1x1x1, .f32⟩
  | 49 => ⟨S_, .f32⟩
  | 50 => ⟨S1x1x1, .f32⟩
  | 51 => ⟨S1x1x1, .f32⟩
  | 52 => ⟨S16x8x65540, .f32⟩
  | 53 => ⟨S16x8x65540, .f32⟩
  | 54 => ⟨S16x8x65536, .f32⟩
  | 55 => ⟨S16x8x65536, .f32⟩
  | 56 => ⟨S16x8x65536, .f32⟩
  | 57 => ⟨S16x8x65536, .f32⟩
  | 58 => ⟨S16x8x65536, .f32⟩
  | 59 => ⟨S16x8x65536, .f32⟩
  | 60 => ⟨S16x8x65536, .f32⟩
  | 61 => ⟨S16x8x65536, .f32⟩
  | 62 => ⟨S16x8x65536, .f32⟩
  | 63 => ⟨S16x8x65536, .f32⟩
  | 64 => ⟨S_, .i32⟩
  | 65 => ⟨S_, .f32⟩
  | 66 => ⟨S16x8, .f32⟩
  | 67 => ⟨S16x8x1, .f32⟩
  | 68 => ⟨S_, .f32⟩
  | 69 => ⟨S16x8x1, .f32⟩
  | 70 => ⟨S16x8x1, .f32⟩
  | 71 => ⟨S16x8x65536, .f32⟩
  | 72 => ⟨S16x8x65536, .f32⟩
  | 73 => ⟨S16x8x65536, .f32⟩
  | 74 => ⟨S_, .f32⟩
  | 75 => ⟨S_, .f32⟩
  | 76 => ⟨S_, .f32⟩
  | 77 => ⟨S_, .f32⟩
  | 78 => ⟨S16x8, .f32⟩
  | 79 => ⟨S16x8x1, .f32⟩
  | 80 => ⟨S16x8x1, .f32⟩
  | 81 => ⟨S16x8x1, .f32⟩
  | 82 => ⟨S_, .f32⟩
  | 83 => ⟨S_, .i1⟩
  | 84 => ⟨S_, .f32⟩
  | 85 => ⟨S_, .f32⟩
  | 86 => ⟨S16x8x1, .f32⟩
  | 87 => ⟨S16x8x1, .f32⟩
  | 88 => ⟨S16x8x1, .f32⟩
  | 89 => ⟨S_, .f32⟩
  | 90 => ⟨S_, .f32⟩
  | 91 => ⟨S16x8x1, .f32⟩
  | 92 => ⟨S16x8x1, .f32⟩
  | 93 => ⟨S_, .f32⟩
  | 94 => ⟨S16x8x1, .f32⟩
  | 95 => ⟨S16x8x1, .f32⟩
  | 96 => ⟨S16x8x65536, .f32⟩
  | 97 => ⟨S16x8x65536, .f32⟩
  | 98 => ⟨S16x8x65536, .i1⟩
  | 99 => ⟨S_, .f32⟩
  | 100 => ⟨S1x1x1, .f32⟩
  | 101 => ⟨S_, .f32⟩
  | 102 => ⟨S1x1x1, .f32⟩
  | 103 => ⟨S1x1x1, .f32⟩
  | 104 => ⟨S16x8x65536, .f32⟩
  | 105 => ⟨S16x8x65536, .f32⟩
  | 106 => ⟨S16x8x65536, .f32⟩
  | 107 => ⟨S_, .f32⟩
  | 108 => ⟨S1x1x1, .f32⟩
  | 109 => ⟨S_, .f32⟩
  | 110 => ⟨S1x1x1, .f32⟩
  | 111 => ⟨S1x1x1, .f32⟩
  | 112 => ⟨S16x8x65536, .f32⟩
  | 113 => ⟨S16x8x65536, .f32⟩
  | 114 => ⟨S_, .f32⟩
  | 115 => ⟨S1x1x1, .f32⟩
  | 116 => ⟨S_, .f32⟩
  | 117 => ⟨S1x1x1, .f32⟩
  | 118 => ⟨S1x1x1, .f32⟩
  | 119 => ⟨S16x8x65536, .f32⟩
  | 120 => ⟨S16x8x65536, .f32⟩
  | 121 => ⟨S_, .f32⟩
  | 122 => ⟨S1x1x1, .f32⟩
  | 123 => ⟨S_, .f32⟩
  | 124 => ⟨S1x1x1, .f32⟩
  | 125 => ⟨S1x1x1, .f32⟩
  | 126 => ⟨S16x8x65536, .f32⟩
  | 127 => ⟨S16x8x65536, .f32⟩
  | _ => ⟨S16x8x65536, .f32⟩

abbrev hbmTy0_1 (i : Nat) : BufTy := match i % 128 with
  | 0 => ⟨S16x8x65536, .f32⟩
  | 1 => ⟨S16x8x65536, .f32⟩
  | 2 => ⟨S_, .i32⟩
  | 3 => ⟨S16x8x1, .f32⟩
  | 4 => ⟨S16x8x1, .f32⟩
  | 5 => ⟨S16x8x1, .f32⟩
  | 6 => ⟨S16x8x1, .f32⟩
  | 7 => ⟨S16x8x65537, .f32⟩
  | 8 => ⟨S32767, .i32⟩
  | 9 => ⟨S_, .i32⟩
  | 10 => ⟨S32767, .i32⟩
  | 11 => ⟨S32767, .i32⟩
  | 12 => ⟨S32767x1, .i32⟩
  | 13 => ⟨S5, .i32⟩
  | 14 => ⟨S1x5, .i32⟩
  | 15 => ⟨S32767x5, .i32⟩
  | 16 => ⟨S32767x5, .i32⟩
  | 17 => ⟨S32767x5, .i32⟩
  | 18 => ⟨S163835, .i32⟩
  | 19 => ⟨S128x65537, .f32⟩
  | 20 => ⟨S_, .i32⟩
  | 21 => ⟨S163835, .i32⟩
  | 22 => ⟨S163835, .i1⟩
  | 23 => ⟨S_, .i32⟩
  | 24 => ⟨S163835, .i32⟩
  | 25 => ⟨S163835, .i32⟩
  | 26 => ⟨S163835, .i32⟩
  | 27 => ⟨S163835x1, .i32⟩
  | 28 => ⟨S128x163835, .f32⟩
  | 29 => ⟨S_, .f32⟩
  | 30 => ⟨S128x65537, .f32⟩
  | 31 => ⟨S_, .i32⟩
  | 32 => ⟨S163835, .i32⟩
  | 33 => ⟨S163835, .i1⟩
  | 34 => ⟨S_, .i32⟩
  | 35 => ⟨S163835, .i32⟩
  | 36 => ⟨S163835, .i32⟩
  | 37 => ⟨S163835, .i32⟩
  | 38 => ⟨S163835x1, .i32⟩
  | 39 => ⟨S128x65537, .f32⟩
  | 40 => ⟨S_, .f32⟩
  | 41 => ⟨S65537, .f32⟩
  | 42 => ⟨S_, .i32⟩
  | 43 => ⟨S163835, .i32⟩
  | 44 => ⟨S163835, .i1⟩
  | 45 => ⟨S_, .i32⟩
  | 46 => ⟨S163835, .i32⟩
  | 47 => ⟨S163835, .i32⟩
  | 48 => ⟨S163835, .i32⟩
  | 49 => ⟨S163835x1, .i32⟩
  | 50 => ⟨S_, .f32⟩
  | 51 => ⟨S163835, .f32⟩
  | 52 => ⟨S65537, .f32⟩
  | 53 => ⟨S_, .f32⟩
  | 54 => ⟨S_, .f32⟩
  | 55 => ⟨S65537, .f32⟩
  | 56 => ⟨S65537, .f32⟩
  | 57 => ⟨S1x65537, .f32⟩
  | 58 => ⟨S128x65537, .f32⟩
  | 59 => ⟨S128x65537, .f32⟩
  | 60 => ⟨S16x8x65537, .f32⟩
  | 61 => ⟨S16x8x65536, .f32⟩
  | 62 => ⟨S_, .i32⟩
  | 63 => ⟨S16x8x1, .f32⟩
  | 64 => ⟨S16x8x5, .f32⟩
  | 65 => ⟨S16x8x5, .f32⟩
  | 66 => ⟨S16x8x65541, .f32⟩
  | 67 => ⟨S16x8x1, .f32⟩
  | 68 => ⟨S16x8x5, .f32⟩
  | 69 => ⟨S16x8x5, .f32⟩
  | 70 => ⟨S16x8x65546, .f32⟩
  | 71 => ⟨S_, .f32⟩
  | 72 => ⟨S1x1x1, .f32⟩
  | 73 => ⟨S_, .f32⟩
  | 74 => ⟨S1x1x1, .f32⟩
  | 75 => ⟨S1x1x1, .f32⟩
  | 76 => ⟨S16x8x65546, .f32⟩
  | 77 => ⟨S16x8x65546, .f32⟩
  | 78 => ⟨S16x8x65536, .f32⟩
  | 79 => ⟨S16x8x65536, .f32⟩
  | 80 => ⟨S16x8x65536, .f32⟩
  | 81 => ⟨S16x8x65536, .f32⟩
  | 82 => ⟨S16x8x65536, .f32⟩
  | 83 => ⟨S16x8x65536, .f32⟩
  | 84 => ⟨S16x8x65536, .f32⟩
  | 85 => ⟨S16x8x65536, .f32⟩
  | 86 => ⟨S16x8x65536, .f32⟩
  | 87 => ⟨S16x8x65536, .f32⟩
  | 88 => ⟨S16x8x65536, .f32⟩
  | 89 => ⟨S16x8x65536, .f32⟩
  | 90 => ⟨S16x8x65536, .f32⟩
  | 91 => ⟨S16x8x65536, .f32⟩
  | 92 => ⟨S16x8x65536, .f32⟩
  | 93 => ⟨S16x8x65536, .f32⟩
  | 94 => ⟨S16x8x65536, .f32⟩
  | 95 => ⟨S16x8x65536, .f32⟩
  | 96 => ⟨S16x8x65536, .f32⟩
  | 97 => ⟨S16x8x65536, .f32⟩
  | 98 => ⟨S16x8x65536, .f32⟩
  | 99 => ⟨S_, .i32⟩
  | 100 => ⟨S16x8x1, .f32⟩
  | 101 => ⟨S16x8x2, .f32⟩
  | 102 => ⟨S16x8x2, .f32⟩
  | 103 => ⟨S16x8x65538, .f32⟩
  | 104 => ⟨S16x8x1, .f32⟩
  | 105 => ⟨S16x8x2, .f32⟩
  | 106 => ⟨S16x8x2, .f32⟩
  | 107 => ⟨S16x8x65540, .f32⟩
  | 108 => ⟨S_, .f32⟩
  | 109 => ⟨S1x1x1, .f32⟩
  | 110 => ⟨S_, .f32⟩
  | 111 => ⟨S1x1x1, .f32⟩
  | 112 => ⟨S1x1x1, .f32⟩
  | 113 => ⟨S16x8x65540, .f32⟩
  | 114 => ⟨S16x8x65540, .f32⟩
  | 115 => ⟨S16x8x65536, .f32⟩
  | 116 => ⟨S16x8x65536, .f32⟩
  | 117 => ⟨S16x8x65536, .f32⟩
  | 118 => ⟨S16x8x65536, .f32⟩
  | 119 => ⟨S16x8x65536, .f32⟩
  | 120 => ⟨S16x8x65536, .f32⟩
  | 121 => ⟨S16x8x65536, .f32⟩
  | 122 => ⟨S16x8x65536, .f32⟩
  | 123 => ⟨S16x8x65536, .f32⟩
  | 124 => ⟨S16x8x65536, .f32⟩
  | 125 => ⟨S_, .i32⟩
  | 126 => ⟨S_, .f32⟩
  | 127 => ⟨S16x8, .f32⟩
  | _ => ⟨S16x8x65536, .f32⟩

abbrev hbmTy0_2 (i : Nat) : BufTy := match i % 128 with
  | 0 => ⟨S16x8x1, .f32⟩
  | 1 => ⟨S_, .f32⟩
  | 2 => ⟨S16x8x1, .f32⟩
  | 3 => ⟨S16x8x1, .f32⟩
  | 4 => ⟨S16x8x65536, .f32⟩
  | 5 => ⟨S16x8x65536, .f32⟩
  | 6 => ⟨S16x8x65536, .f32⟩
  | 7 => ⟨S_, .f32⟩
  | 8 => ⟨S_, .f32⟩
  | 9 => ⟨S_, .f32⟩
  | 10 => ⟨S_, .f32⟩
  | 11 => ⟨S16x8, .f32⟩
  | 12 => ⟨S16x8x1, .f32⟩
  | 13 => ⟨S16x8x1, .f32⟩
  | 14 => ⟨S16x8x1, .f32⟩
  | 15 => ⟨S_, .f32⟩
  | 16 => ⟨S_, .i1⟩
  | 17 => ⟨S_, .f32⟩
  | 18 => ⟨S_, .f32⟩
  | 19 => ⟨S16x8x1, .f32⟩
  | 20 => ⟨S16x8x1, .f32⟩
  | 21 => ⟨S16x8x1, .f32⟩
  | 22 => ⟨S_, .f32⟩
  | 23 => ⟨S_, .f32⟩
  | 24 => ⟨S16x8x1, .f32⟩
  | 25 => ⟨S16x8x1, .f32⟩
  | 26 => ⟨S_, .f32⟩
  | 27 => ⟨S16x8x1, .f32⟩
  | 28 => ⟨S16x8x1, .f32⟩
  | 29 => ⟨S16x8x65536, .f32⟩
  | 30 => ⟨S16x8x65536, .f32⟩
  | 31 => ⟨S16x8x65536, .i1⟩
  | 32 => ⟨S_, .f32⟩
  | 33 => ⟨S1x1x1, .f32⟩
  | 34 => ⟨S_, .f32⟩
  | 35 => ⟨S1x1x1, .f32⟩
  | 36 => ⟨S1x1x1, .f32⟩
  | 37 => ⟨S16x8x65536, .f32⟩
  | 38 => ⟨S16x8x65536, .f32⟩
  | 39 => ⟨S16x8x65536, .f32⟩
  | 40 => ⟨S_, .f32⟩
  | 41 => ⟨S1x1x1, .f32⟩
  | 42 => ⟨S_, .f32⟩
  | 43 => ⟨S1x1x1, .f32⟩
  | 44 => ⟨S1x1x1, .f32⟩
  | 45 => ⟨S16x8x65536, .f32⟩
  | 46 => ⟨S16x8x65536, .f32⟩
  | 47 => ⟨S_, .f32⟩
  | 48 => ⟨S1x1x1, .f32⟩
  | 49 => ⟨S_, .f32⟩
  | 50 => ⟨S1x1x1, .f32⟩
  | 51 => ⟨S1x1x1, .f32⟩
  | 52 => ⟨S16x8x65536, .f32⟩
  | 53 => ⟨S16x8x65536, .f32⟩
  | 54 => ⟨S_, .f32⟩
  | 55 => ⟨S1x1x1, .f32⟩
  | 56 => ⟨S_, .f32⟩
  | 57 => ⟨S1x1x1, .f32⟩
  | 58 => ⟨S1x1x1, .f32⟩
  | 59 => ⟨S16x8x65536, .f32⟩
  | 60 => ⟨S16x8x65536, .f32⟩
  | 61 => ⟨S16x8x65536, .f32⟩
  | 62 => ⟨S16x8x65536, .f32⟩
  | 63 => ⟨S_, .i32⟩
  | 64 => ⟨S16x8x1, .f32⟩
  | 65 => ⟨S16x8x1, .f32⟩
  | 66 => ⟨S16x8x1, .f32⟩
  | 67 => ⟨S16x8x1, .f32⟩
  | 68 => ⟨S16x8x65537, .f32⟩
  | 69 => ⟨S32767, .i32⟩
  | 70 => ⟨S_, .i32⟩
  | 71 => ⟨S32767, .i32⟩
  | 72 => ⟨S32767, .i32⟩
  | 73 => ⟨S32767x1, .i32⟩
  | 74 => ⟨S5, .i32⟩
  | 75 => ⟨S1x5, .i32⟩
  | 76 => ⟨S32767x5, .i32⟩
  | 77 => ⟨S32767x5, .i32⟩
  | 78 => ⟨S32767x5, .i32⟩
  | 79 => ⟨S163835, .i32⟩
  | 80 => ⟨S128x65537, .f32⟩
  | 81 => ⟨S_, .i32⟩
  | 82 => ⟨S163835, .i32⟩
  | 83 => ⟨S163835, .i1⟩
  | 84 => ⟨S_, .i32⟩
  | 85 => ⟨S163835, .i32⟩
  | 86 => ⟨S163835, .i32⟩
  | 87 => ⟨S163835, .i32⟩
  | 88 => ⟨S163835x1, .i32⟩
  | 89 => ⟨S128x163835, .f32⟩
  | 90 => ⟨S_, .f32⟩
  | 91 => ⟨S128x65537, .f32⟩
  | 92 => ⟨S_, .i32⟩
  | 93 => ⟨S163835, .i32⟩
  | 94 => ⟨S163835, .i1⟩
  | 95 => ⟨S_, .i32⟩
  | 96 => ⟨S163835, .i32⟩
  | 97 => ⟨S163835, .i32⟩
  | 98 => ⟨S163835, .i32⟩
  | 99 => ⟨S163835x1, .i32⟩
  | 100 => ⟨S128x65537, .f32⟩
  | 101 => ⟨S_, .f32⟩
  | 102 => ⟨S65537, .f32⟩
  | 103 => ⟨S_, .i32⟩
  | 104 => ⟨S163835, .i32⟩
  | 105 => ⟨S163835, .i1⟩
  | 106 => ⟨S_, .i32⟩
  | 107 => ⟨S163835, .i32⟩
  | 108 => ⟨S163835, .i32⟩
  | 109 => ⟨S163835, .i32⟩
  | 110 => ⟨S163835x1, .i32⟩
  | 111 => ⟨S_, .f32⟩
  | 112 => ⟨S163835, .f32⟩
  | 113 => ⟨S65537, .f32⟩
  | 114 => ⟨S_, .f32⟩
  | 115 => ⟨S_, .f32⟩
  | 116 => ⟨S65537, .f32⟩
  | 117 => ⟨S65537, .f32⟩
  | 118 => ⟨S1x65537, .f32⟩
  | 119 => ⟨S128x65537, .f32⟩
  | 120 => ⟨S128x65537, .f32⟩
  | 121 => ⟨S16x8x65537, .f32⟩
  | 122 => ⟨S16x8x65536, .f32⟩
  | 123 => ⟨S128x65536, .f32⟩
  | _ => ⟨S16x8x65536, .f32⟩

abbrev hbmTy (i : Nat) : BufTy := match i / 128 with
  | 0 => hbmTy0_0 i
  | 1 => hbmTy0_1 i
  | 2 => hbmTy0_2 i
  | _ => ⟨S16x8x65536, .f32⟩

abbrev bufTy : (tb : Table) → Fin (tcTables nBuf tb) → BufTy
  | .hbm, ⟨i, _⟩ => hbmTy i
  | _, _ => ⟨S16x8x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_4 : Ref sig .tc := ⟨.hbm, 64, rfl⟩
abbrev main_call2_call0_cst : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_call0_cst_0 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_cst_1 : Ref sig .tc := ⟨.hbm, 75, rfl⟩
abbrev main_call2_call0_v8 : Ref sig .tc := ⟨.hbm, 76, rfl⟩
abbrev main_call2_call0_cst_2 : Ref sig .tc := ⟨.hbm, 77, rfl⟩
abbrev main_call2_call0_v9 : Ref sig .tc := ⟨.hbm, 78, rfl⟩
abbrev main_call2_call0_v10 : Ref sig .tc := ⟨.hbm, 79, rfl⟩
abbrev main_call2_call0_v11 : Ref sig .tc := ⟨.hbm, 80, rfl⟩
abbrev main_call2_call0_v12 : Ref sig .tc := ⟨.hbm, 81, rfl⟩
abbrev main_call2_call0_cst_3 : Ref sig .tc := ⟨.hbm, 82, rfl⟩
abbrev main_call2_call0_v13 : Ref sig .tc := ⟨.hbm, 83, rfl⟩
abbrev main_call2_call0_cst_4 : Ref sig .tc := ⟨.hbm, 84, rfl⟩
abbrev main_call2_call0_call0_v0 : Ref sig .tc := ⟨.hbm, 85, rfl⟩
abbrev main_call2_call0_call0_v1 : Ref sig .tc := ⟨.hbm, 86, rfl⟩
abbrev main_call2_v0 : Ref sig .tc := ⟨.hbm, 87, rfl⟩
abbrev main_v43 : Ref sig .tc := ⟨.hbm, 88, rfl⟩
abbrev main_cst_5 : Ref sig .tc := ⟨.hbm, 89, rfl⟩
abbrev main_call3_v0 : Ref sig .tc := ⟨.hbm, 90, rfl⟩
abbrev main_call3_v1 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_7 : Ref sig .tc := ⟨.hbm, 99, rfl⟩
abbrev main_v50 : Ref sig .tc := ⟨.hbm, 100, rfl⟩
abbrev main_cst_8 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_9 : Ref sig .tc := ⟨.hbm, 107, rfl⟩
abbrev main_v56 : Ref sig .tc := ⟨.hbm, 108, rfl⟩
abbrev main_cst_10 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_11 : Ref sig .tc := ⟨.hbm, 114, rfl⟩
abbrev main_v61 : Ref sig .tc := ⟨.hbm, 115, rfl⟩
abbrev main_cst_12 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_13 : Ref sig .tc := ⟨.hbm, 121, rfl⟩
abbrev main_v66 : Ref sig .tc := ⟨.hbm, 122, rfl⟩
abbrev main_cst_14 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_15 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_call5_v3 : Ref sig .tc := ⟨.hbm, 134, rfl⟩
abbrev main_v73 : Ref sig .tc := ⟨.hbm, 135, rfl⟩
abbrev main_v74 : Ref sig .tc := ⟨.hbm, 136, rfl⟩
abbrev main_c_16 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_17 : Ref sig .tc := ⟨.hbm, 148, rfl⟩
abbrev main_v85 : Ref sig .tc := ⟨.hbm, 149, rfl⟩
abbrev main_v86 : Ref sig .tc := ⟨.hbm, 150, rfl⟩
abbrev main_c_18 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_cst_19 : Ref sig .tc := ⟨.hbm, 157, rfl⟩
abbrev main_v92 : Ref sig .tc := ⟨.hbm, 158, rfl⟩
abbrev main_c_20 : Ref sig .tc := ⟨.hbm, 159, rfl⟩
abbrev main_v93 : Ref sig .tc := ⟨.hbm, 160, rfl⟩
abbrev main_v94 : Ref sig .tc := ⟨.hbm, 161, rfl⟩
abbrev main_c_21 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_22 : Ref sig .tc := ⟨.hbm, 168, rfl⟩
abbrev main_v100 : Ref sig .tc := ⟨.hbm, 169, rfl⟩
abbrev main_c_23 : Ref sig .tc := ⟨.hbm, 170, rfl⟩
abbrev main_v101 : Ref sig .tc := ⟨.hbm, 171, rfl⟩
abbrev main_v102 : Ref sig .tc := ⟨.hbm, 172, rfl⟩
abbrev main_c_24 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_cst_25 : Ref sig .tc := ⟨.hbm, 178, rfl⟩
abbrev main_v107 : Ref sig .tc := ⟨.hbm, 179, rfl⟩
abbrev main_v108 : Ref sig .tc := ⟨.hbm, 180, rfl⟩
abbrev main_cst_26 : Ref sig .tc := ⟨.hbm, 181, rfl⟩
abbrev main_call6_v0 : Ref sig .tc := ⟨.hbm, 182, rfl⟩
abbrev main_call6_v1 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_c_27 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_v6 : Ref sig .tc := ⟨.hbm, 197, rfl⟩
abbrev main_v115 : Ref sig .tc := ⟨.hbm, 198, rfl⟩
abbrev main_cst_28 : Ref sig .tc := ⟨.hbm, 199, rfl⟩
abbrev main_v116 : Ref sig .tc := ⟨.hbm, 200, rfl⟩
abbrev main_cst_29 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_c_30 : Ref sig .tc := ⟨.hbm, 227, rfl⟩
abbrev main_call8_v0 : Ref sig .tc := ⟨.hbm, 228, rfl⟩
abbrev main_call8_v1 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_call8_v5 : Ref sig .tc := ⟨.hbm, 233, rfl⟩
abbrev main_call8_v6 : Ref sig .tc := ⟨.hbm, 234, rfl⟩
abbrev main_v142 : Ref sig .tc := ⟨.hbm, 235, rfl⟩
abbrev main_cst_31 : Ref sig .tc := ⟨.hbm, 236, rfl⟩
abbrev main_v143 : Ref sig .tc := ⟨.hbm, 237, rfl⟩
abbrev main_cst_32 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_c_33 : Ref sig .tc := ⟨.hbm, 253, rfl⟩
abbrev main_call9_call0_cst : Ref sig .tc := ⟨.hbm, 254, rfl⟩
abbrev main_call9_call0_v0 : Ref sig .tc := ⟨.hbm, 255, rfl⟩
abbrev main_call9_call0_v1 : Ref sig .tc := ⟨.hbm, 256, rfl⟩
abbrev main_call9_call0_cst_0 : Ref sig .tc := ⟨.hbm, 257, rfl⟩
abbrev main_call9_call0_v2 : Ref sig .tc := ⟨.hbm, 258, rfl⟩
abbrev main_call9_call0_v3 : Ref sig .tc := ⟨.hbm, 259, rfl⟩
abbrev main_call9_call0_v4 : Ref sig .tc := ⟨.hbm, 260, rfl⟩
abbrev main_call9_call0_v5 : Ref sig .tc := ⟨.hbm, 261, rfl⟩
abbrev main_call9_call0_v6 : Ref sig .tc := ⟨.hbm, 262, rfl⟩
abbrev main_call9_call0_v7 : Ref sig .tc := ⟨.hbm, 263, rfl⟩
abbrev main_call9_call0_cst_1 : Ref sig .tc := ⟨.hbm, 264, rfl⟩
abbrev main_call9_call0_v8 : Ref sig .tc := ⟨.hbm, 265, rfl⟩
abbrev main_call9_call0_cst_2 : Ref sig .tc := ⟨.hbm, 266, rfl⟩
abbrev main_call9_call0_v9 : Ref sig .tc := ⟨.hbm, 267, rfl⟩
abbrev main_call9_call0_v10 : Ref sig .tc := ⟨.hbm, 268, rfl⟩
abbrev main_call9_call0_v11 : Ref sig .tc := ⟨.hbm, 269, rfl⟩
abbrev main_call9_call0_v12 : Ref sig .tc := ⟨.hbm, 270, rfl⟩
abbrev main_call9_call0_cst_3 : Ref sig .tc := ⟨.hbm, 271, rfl⟩
abbrev main_call9_call0_v13 : Ref sig .tc := ⟨.hbm, 272, rfl⟩
abbrev main_call9_call0_cst_4 : Ref sig .tc := ⟨.hbm, 273, rfl⟩
abbrev main_call9_call0_call0_v0 : Ref sig .tc := ⟨.hbm, 274, rfl⟩
abbrev main_call9_call0_call0_v1 : Ref sig .tc := ⟨.hbm, 275, rfl⟩
abbrev main_call9_v0 : Ref sig .tc := ⟨.hbm, 276, rfl⟩
abbrev main_v158 : Ref sig .tc := ⟨.hbm, 277, rfl⟩
abbrev main_cst_34 : Ref sig .tc := ⟨.hbm, 278, rfl⟩
abbrev main_call10_v0 : Ref sig .tc := ⟨.hbm, 279, rfl⟩
abbrev main_call10_v1 : Ref sig .tc := ⟨.hbm, 280, rfl⟩
abbrev main_v159 : Ref sig .tc := ⟨.hbm, 281, rfl⟩
abbrev main_cst_35 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_cst_36 : Ref sig .tc := ⟨.hbm, 288, rfl⟩
abbrev main_v165 : Ref sig .tc := ⟨.hbm, 289, rfl⟩
abbrev main_cst_37 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_cst_38 : Ref sig .tc := ⟨.hbm, 296, rfl⟩
abbrev main_v171 : Ref sig .tc := ⟨.hbm, 297, rfl⟩
abbrev main_cst_39 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_cst_40 : Ref sig .tc := ⟨.hbm, 303, rfl⟩
abbrev main_v176 : Ref sig .tc := ⟨.hbm, 304, rfl⟩
abbrev main_cst_41 : Ref sig .tc := ⟨.hbm, 305, rfl⟩
abbrev main_v177 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_cst_42 : Ref sig .tc := ⟨.hbm, 310, rfl⟩
abbrev main_v181 : Ref sig .tc := ⟨.hbm, 311, rfl⟩
abbrev main_cst_43 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_c_44 : Ref sig .tc := ⟨.hbm, 319, rfl⟩
abbrev main_call12_v0 : Ref sig .tc := ⟨.hbm, 320, rfl⟩
abbrev main_call12_v1 : Ref sig .tc := ⟨.hbm, 321, rfl⟩
abbrev main_call12_v2 : Ref sig .tc := ⟨.hbm, 322, rfl⟩
abbrev main_call12_v3 : Ref sig .tc := ⟨.hbm, 323, rfl⟩
abbrev main_v188 : Ref sig .tc := ⟨.hbm, 324, rfl⟩
abbrev main_v189 : Ref sig .tc := ⟨.hbm, 325, rfl⟩
abbrev main_c_45 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_v199 : Ref sig .tc := ⟨.hbm, 336, rfl⟩
abbrev main_c_46 : Ref sig .tc := ⟨.hbm, 337, rfl⟩
abbrev main_v200 : Ref sig .tc := ⟨.hbm, 338, rfl⟩
abbrev main_v201 : Ref sig .tc := ⟨.hbm, 339, rfl⟩
abbrev main_c_47 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_cst_48 : Ref sig .tc := ⟨.hbm, 346, rfl⟩
abbrev main_v207 : Ref sig .tc := ⟨.hbm, 347, rfl⟩
abbrev main_c_49 : Ref sig .tc := ⟨.hbm, 348, rfl⟩
abbrev main_v208 : Ref sig .tc := ⟨.hbm, 349, rfl⟩
abbrev main_v209 : Ref sig .tc := ⟨.hbm, 350, rfl⟩
abbrev main_c_50 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_cst_51 : Ref sig .tc := ⟨.hbm, 357, rfl⟩
abbrev main_v215 : Ref sig .tc := ⟨.hbm, 358, rfl⟩
abbrev main_c_52 : Ref sig .tc := ⟨.hbm, 359, rfl⟩
abbrev main_v216 : Ref sig .tc := ⟨.hbm, 360, rfl⟩
abbrev main_v217 : Ref sig .tc := ⟨.hbm, 361, rfl⟩
abbrev main_c_53 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_cst_54 : Ref sig .tc := ⟨.hbm, 367, rfl⟩
abbrev main_v222 : Ref sig .tc := ⟨.hbm, 368, rfl⟩
abbrev main_v223 : Ref sig .tc := ⟨.hbm, 369, rfl⟩
abbrev main_cst_55 : Ref sig .tc := ⟨.hbm, 370, rfl⟩
abbrev main_call13_v0 : Ref sig .tc := ⟨.hbm, 371, rfl⟩
abbrev main_call13_v1 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩

abbrev nD : Nat := 1
abbrev τ : Topo := Topo.v7x

variable {F : FTy → Type} [FloatOps F]
-- ==== Proof.Finite.lean ====
module

public import proofs.«01_k».proof.Pre_finite
public import proofs.«01_k».proof.Proof.Gen.Pre_finite
public import Idealize.ShloMosaic.PureOps.Ideal
public import Idealize.ShloMosaic.Lib.Pointwise

/-! # The precondition: every sample is a real number -/

@[expose] public section

set_option maxRecDepth 16384

noncomputable section

namespace Cert.Pre_finite.Denoise

open Cert.Pre_finite Cert.Pre_finite.Gen Idealize.ShloMosaic

/-- The word of the bound is infinity. -/
theorem bound : (Ideal.ofBits .f32 0x7F800000#32 : EReal) = ⊤ := by
  simp [Ideal.ofBits, Ideal.ieee]

/-- If the precondition's array is all ones, every sample is a real number. -/
theorem real_of_finite {x : FVec Ideal S16x8x65536 .f32} (h : Cert.Pre_finite.fn (F := Ideal) x = fun _ => 1#1) (b : Fin 16) (s : Fin 8) (l : Fin 65536) :
    x (ix3 b s l) = (((x (ix3 b s l) : EReal).toReal : ℝ) : EReal) := by
  have h1 := congrFun h (ix3 b s l)
  revert h1
  pointwise [Cert.Pre_finite.fn]
  rw [bound]
  intro hb
  have hlt : (max (x (ix3 b s l)) (-(x (ix3 b s l) : EReal)) : EReal) < ⊤ := by
    by_contra hn
    exact absurd (hb.symm.trans (congrArg BitVec.ofBool (decide_eq_false hn))) (by decide)
  exact (EReal.coe_toReal (fun ht => (lt_of_le_of_lt (le_max_left _ _) hlt).ne ht)
    (fun hbot => (lt_of_le_of_lt (le_max_right _ _) hlt).ne (by rw [hbot]; exact EReal.neg_bot))).symm

end Cert.Pre_finite.Denoise

end

end
-- ==== Proof.Model.lean ====
module

public import Idealize.ShloMosaic.PureOps.Ideal
public import Idealize.ShloMosaic.Lib.IdealHost

/-! # The denoiser over the reals

One pass of the denoiser on a signal of 65536 real samples: a mean of 5 and a mean of 11 neighbours (the signal
reflected at both ends), the residual against the first, its standard deviation, the damping of the large residuals,
and the blend.  A signal is a function of the natural numbers of which only the first 65536 values are read. -/

@[expose] public section

noncomputable section

namespace Cert.Denoise

/-- The sample that stands at place `j` of a signal padded by `h` reflected samples on each side. -/
def mir (h j : ℕ) : ℕ := if j < h then h - j else if j - h < 65536 then j - h else 131070 - (j - h)

/-- The mean of the `2 * h + 1` neighbours of sample `l`, the signal reflected at both ends. -/
def mean (h : ℕ) (x : ℕ → ℝ) (l : ℕ) : ℝ :=
  (∑ o ∈ Finset.range (2 * h + 1), x (mir h (l + o))) * (1 / ((2 * h + 1 : ℕ) : ℝ))

/-- The residual of a signal against its mean of five. -/
def resid (x : ℕ → ℝ) (l : ℕ) : ℝ := x l - mean 2 x l

/-- The blend of the mean of five and the mean of eleven. -/
def blend (x : ℕ → ℝ) (l : ℕ) : ℝ := 2 / 5 * mean 2 x l + 3 / 5 * mean 5 x l

/-- The unbiased variance of the first 65536 samples, about their mean. -/
def variance (r : ℕ → ℝ) : ℝ :=
  (∑ k : Fin 65536, (r k - (∑ i : Fin 65536, r i) / 65536) * (r k - (∑ i : Fin 65536, r i) / 65536)) / 65535

/-- A variance is not negative. -/
theorem variance_nonneg (r : ℕ → ℝ) : 0 ≤ variance r :=
  div_nonneg (Finset.sum_nonneg fun _ _ => mul_self_nonneg _) (by norm_num)

/-- The least scale, the binary32 number nearest to a millionth. -/
def eps : ℝ := 8796093 / 8796093022208

/-- The threshold above which a residual counts as a spike. -/
def thr (r : ℕ → ℝ) : ℝ := max eps (Real.sqrt (variance r)) * (7 / 2)

/-- One pass of the denoiser. -/
def step (x : ℕ → ℝ) (l : ℕ) : ℝ :=
  blend x l + (if thr (resid x) < |resid x l| then resid x l * (7 / 20) else resid x l) * (17 / 20)

end Cert.Denoise

end

end
-- ==== Proof.EdgeTaps.lean ====
module

public import proofs.«01_k».proof.Proof.Model
public import proofs.«01_k».proof.Proof.Gen.KernelIdeal.Value
public import Idealize.ShloMosaic.Lib.Pointwise
public import Idealize.ShloMosaic.Lib.WordCmp
public import Idealize.ShloMosaic.Lib.WordArith

/-! # The edge matrices

At both ends of a signal the kernel computes the windowed means as products with matrices of taps.  Each entry of a
matrix counts how often the window of an output sample reads an input sample when the signal is reflected. -/

@[expose] public section

set_option maxRecDepth 16384

noncomputable section

namespace Cert.KernelIdeal.Denoise

open Cert.KernelIdeal Cert.KernelIdeal.Gen Idealize.ShloMosaic Idealize.ShloMosaic.TcCoe Idealize.SL.Sem Cert.Denoise

/-- How often the window of `2 * h + 1` samples about sample `l` reads sample `j` of the reflected signal. -/
def taps (h l j : ℕ) : ℕ := ∑ o ∈ Finset.range (2 * h + 1), if mir h (l + o) = j then 1 else 0

/-- A count of the places where a condition holds that holds at one place at most. -/
theorem count_one (n c : ℕ) (P : ℕ → Prop) [DecidablePred P] (Q : Prop) [Decidable Q] (h1 : ∀ o < n, P o → o = c ∧ Q)
    (h2 : Q → c < n ∧ P c) : (∑ o ∈ Finset.range n, if P o then 1 else 0) = if Q then 1 else 0 := by
  by_cases hQ : Q
  · rw [if_pos hQ, Finset.sum_eq_single c]
    · exact if_pos (h2 hQ).2
    · intro o ho hne
      exact if_neg fun hP => hne (h1 o (Finset.mem_range.1 ho) hP).1
    · exact fun h => absurd (Finset.mem_range.2 (h2 hQ).1) h
  · rw [if_neg hQ]
    exact Finset.sum_eq_zero fun o ho => if_neg fun hP => hQ (h1 o (Finset.mem_range.1 ho) hP).2

/-- The taps of the first 128 samples: a neighbour counts once, and a reflected one once more. -/
theorem taps_left (h j q : ℕ) (hh : h ≤ 5) (hj : j < 256) (hq : q < 128) :
    taps h q j = (if j ≤ q + h ∧ q ≤ j + h then 1 else 0) + (if 1 ≤ j ∧ j + q ≤ h then 1 else 0) := by
  have e : ∀ o ∈ Finset.range (2 * h + 1), (if mir h (q + o) = j then 1 else 0)
      = (if q + o = j + h then 1 else 0) + (if 1 ≤ j ∧ q + o + j = h then 1 else 0) := by
    intro o ho
    have ho := Finset.mem_range.1 ho
    unfold mir
    split_ifs <;> omega
  rw [taps, Finset.sum_congr rfl e, Finset.sum_add_distrib,
    count_one (2 * h + 1) (j + h - q) (fun o => q + o = j + h) (j ≤ q + h ∧ q ≤ j + h) (by omega) (by omega),
    count_one (2 * h + 1) (h - j - q) (fun o => 1 ≤ j ∧ q + o + j = h) (1 ≤ j ∧ j + q ≤ h) (by omega) (by omega)]

/-- The taps of the last 128 samples. -/
theorem taps_right (h j q : ℕ) (hh : h ≤ 5) (hj : j < 256) (hq : q < 128) :
    taps h (65408 + q) (65280 + j)
      = (if j ≤ 128 + q + h ∧ 128 + q ≤ j + h then 1 else 0) + (if 382 ≤ j + q + h ∧ j ≤ 254 then 1 else 0) := by
  have e : ∀ o ∈ Finset.range (2 * h + 1), (if mir h (65408 + q + o) = 65280 + j then 1 else 0)
      = (if 128 + q + o = j + h then 1 else 0) + (if j ≤ 254 ∧ q + o + j = 382 + h then 1 else 0) := by
    intro o ho
    have ho := Finset.mem_range.1 ho
    unfold mir
    split_ifs <;> omega
  rw [taps, Finset.sum_congr rfl e, Finset.sum_add_distrib,
    count_one (2 * h + 1) (j + h - 128 - q) (fun o => 128 + q + o = j + h) (j ≤ 128 + q + h ∧ 128 + q ≤ j + h) (by omega) (by omega),
    count_one (2 * h + 1) (382 + h - j - q) (fun o => j ≤ 254 ∧ q + o + j = 382 + h) (382 ≤ j + q + h ∧ j ≤ 254) (by omega) (by omega)]

/-- The magnitude of a word, read signed. -/
theorem absi_toInt (x : BitVec 32) (h : -2 ^ 31 < x.toInt) : (IntOp.absi x).toInt = |x.toInt| := by
  unfold IntOp.absi
  rw [BitVec.msb_eq_toInt]
  by_cases hx : x.toInt < 0
  · rw [if_pos (by simpa using hx), ← BitVec.zero_sub,
      WordArith.toInt_sub_of_bounds _ _ (by simp; omega) (by simp; omega), abs_of_neg hx]
    simp
  · rw [if_neg (by simpa using hx), abs_of_nonneg (by omega)]

/-- The sum of two words, read signed, when it does not overflow. -/
theorem addi_toInt {x y : BitVec 32} {a b : ℤ} (hx : x.toInt = a) (hy : y.toInt = b) (h1 : -2 ^ 31 ≤ a + b) (h2 : a + b < 2 ^ 31) :
    (IntOp.addi x y).toInt = a + b := by
  subst hx hy; exact WordArith.toInt_add_of_bounds _ _ h1 h2

/-- The difference of two words, read signed, when it does not overflow. -/
theorem subi_toInt {x y : BitVec 32} {a b : ℤ} (hx : x.toInt = a) (hy : y.toInt = b) (h1 : -2 ^ 31 ≤ a - b) (h2 : a - b < 2 ^ 31) :
    (IntOp.subi x y).toInt = a - b := by
  subst hx hy; exact WordArith.toInt_sub_of_bounds _ _ h1 h2

/-- A truth value's word, widened and read signed. -/
theorem bit_toInt (p : Prop) [Decidable p] : (BitVec.setWidth 32 (BitVec.ofBool (decide p))).toInt = if p then 1 else 0 := by
  by_cases h : p
  · rw [if_pos h, decide_eq_true h]; decide
  · rw [if_neg h, decide_eq_false h]; decide

/-- A small number's word, read signed. -/
theorem small_toInt (a : ℕ) (h : a < 2 ^ 31) : (BitVec.ofNat 32 a).toInt = (a : ℤ) :=
  WordCmp.toInt_ofNat_of_lt h

/-- The words of the left matrix of the mean of five count its taps. -/
theorem left2 (j q : ℕ) (hj : j < 256) (hq : q < 128) :
    (BitVec.setWidth 32 (IntOp.cmpi CmpIPredicate.sle (IntOp.absi (IntOp.subi (BitVec.ofNat 32 j) (BitVec.ofNat 32 q))) 2#32)).toInt
      + (BitVec.setWidth 32 (IntOp.andi (IntOp.cmpi CmpIPredicate.sge (BitVec.ofNat 32 j) 1#32)
          (IntOp.cmpi CmpIPredicate.sle (BitVec.ofNat 32 j) (IntOp.subi (2#32) (BitVec.ofNat 32 q))))).toInt
      = ((taps 2 q j : ℕ) : ℤ) := by
  have hjj : (BitVec.ofNat 32 j).toInt = (j : ℤ) := small_toInt _ (by omega)
  have hc : (BitVec.ofNat 32 q).toInt = (q : ℤ) := small_toInt _ (by omega)
  have hd : (IntOp.subi (BitVec.ofNat 32 j) (BitVec.ofNat 32 q)).toInt = (j : ℤ) - (q : ℤ) := subi_toInt hjj hc (by omega) (by omega)
  have ha : (IntOp.absi (IntOp.subi (BitVec.ofNat 32 j) (BitVec.ofNat 32 q))).toInt = |(j : ℤ) - (q : ℤ)| := by
    rw [absi_toInt _ (by rw [hd]; omega), hd]
  have hh : (2#32 : BitVec 32).toInt = 2 := by decide
  have h1 : (1#32 : BitVec 32).toInt = 1 := by decide
  have hr : (IntOp.subi (2#32) (BitVec.ofNat 32 q)).toInt = (2 : ℤ) - (q : ℤ) :=
    subi_toInt (by decide) hc (by omega) (by omega)
  rw [WordCmp.cmpi_sle_eq, WordCmp.cmpi_sge_eq, WordCmp.cmpi_sle_eq, WordCmp.andi_ofBool, ha, hh]
  rw [h1, hr, hjj, ← Bool.decide_and, bit_toInt, bit_toInt, taps_left 2 j q (by omega) hj hq]
  simp only [abs_le]
  split_ifs <;> omega

/-- The words of the left matrix of the mean of eleven count its taps. -/
theorem left5 (j q : ℕ) (hj : j < 256) (hq : q < 128) :
    (BitVec.setWidth 32 (IntOp.cmpi CmpIPredicate.sle (IntOp.absi (IntOp.subi (BitVec.ofNat 32 j) (BitVec.ofNat 32 q))) 5#32)).toInt
      + (BitVec.setWidth 32 (IntOp.andi (IntOp.cmpi CmpIPredicate.sge (BitVec.ofNat 32 j) 1#32)
          (IntOp.cmpi CmpIPredicate.sle (BitVec.ofNat 32 j) (IntOp.subi (5#32) (BitVec.ofNat 32 q))))).toInt
      = ((taps 5 q j : ℕ) : ℤ) := by
  have hjj : (BitVec.ofNat 32 j).toInt = (j : ℤ) := small_toInt _ (by omega)
  have hc : (BitVec.ofNat 32 q).toInt = (q : ℤ) := small_toInt _ (by omega)
  have hd : (IntOp.subi (BitVec.ofNat 32 j) (BitVec.ofNat 32 q)).toInt = (j : ℤ) - (q : ℤ) := subi_toInt hjj hc (by omega) (by omega)
  have ha : (IntOp.absi (IntOp.subi (BitVec.ofNat 32 j) (BitVec.ofNat 32 q))).toInt = |(j : ℤ) - (q : ℤ)| := by
    rw [absi_toInt _ (by rw [hd]; omega), hd]
  have hh : (5#32 : BitVec 32).toInt = 5 := by decide
  have h1 : (1#32 : BitVec 32).toInt = 1 := by decide
  have hr : (IntOp.subi (5#32) (BitVec.ofNat 32 q)).toInt = (5 : ℤ) - (q : ℤ) :=
    subi_toInt (by decide) hc (by omega) (by omega)
  rw [WordCmp.cmpi_sle_eq, WordCmp.cmpi_sge_eq, WordCmp.cmpi_sle_eq, WordCmp.andi_ofBool, ha, hh]
  rw [h1, hr, hjj, ← Bool.decide_and, bit_toInt, bit_toInt, taps_left 5 j q (by omega) hj hq]
  simp only [abs_le]
  split_ifs <;> omega

/-- The words of the right matrix of the mean of five count its taps. -/
theorem right2 (j q : ℕ) (hj : j < 256) (hq : q < 128) :
    (BitVec.setWidth 32 (IntOp.cmpi CmpIPredicate.sle (IntOp.absi (IntOp.subi (BitVec.ofNat 32 j) (IntOp.addi (128#32) (BitVec.ofNat 32 q)))) 2#32)).toInt
      + (BitVec.setWidth 32 (IntOp.andi (IntOp.cmpi CmpIPredicate.sge (BitVec.ofNat 32 j)
            (IntOp.subi (IntOp.subi (510#32) (IntOp.addi (128#32) (BitVec.ofNat 32 q))) 2#32))
          (IntOp.cmpi CmpIPredicate.sle (BitVec.ofNat 32 j) 254#32))).toInt
      = ((taps 2 (65408 + q) (65280 + j) : ℕ) : ℤ) := by
  have hjj : (BitVec.ofNat 32 j).toInt = (j : ℤ) := small_toInt _ (by omega)
  have hc : (IntOp.addi (128#32) (BitVec.ofNat 32 q)).toInt = 128 + (q : ℤ) :=
    addi_toInt (by decide) (small_toInt _ (by omega)) (by omega) (by omega)
  have hd : (IntOp.subi (BitVec.ofNat 32 j) (IntOp.addi (128#32) (BitVec.ofNat 32 q))).toInt = (j : ℤ) - (128 + (q : ℤ)) := subi_toInt hjj hc (by omega) (by omega)
  have ha : (IntOp.absi (IntOp.subi (BitVec.ofNat 32 j) (IntOp.addi (128#32) (BitVec.ofNat 32 q)))).toInt = |(j : ℤ) - (128 + (q : ℤ))| := by
    rw [absi_toInt _ (by rw [hd]; omega), hd]
  have hh : (2#32 : BitVec 32).toInt = 2 := by decide
  have h1 : (254#32 : BitVec 32).toInt = 254 := by decide
  have hr : (IntOp.subi (IntOp.subi (510#32) (IntOp.addi (128#32) (BitVec.ofNat 32 q))) 2#32).toInt = ((510 : ℤ) - (128 + (q : ℤ))) - 2 :=
    subi_toInt (subi_toInt (by decide) hc (by omega) (by omega)) (by decide) (by omega) (by omega)
  rw [WordCmp.cmpi_sle_eq, WordCmp.cmpi_sge_eq, WordCmp.cmpi_sle_eq, WordCmp.andi_ofBool, ha, hh]
  rw [h1, hr, hjj, ← Bool.decide_and, bit_toInt, bit_toInt, taps_right 2 j q (by omega) hj hq]
  simp only [abs_le]
  split_ifs <;> omega

/-- The words of the right matrix of the mean of eleven count its taps. -/
theorem right5 (j q : ℕ) (hj : j < 256) (hq : q < 128) :
    (BitVec.setWidth 32 (IntOp.cmpi CmpIPredicate.sle (IntOp.absi (IntOp.subi (BitVec.ofNat 32 j) (IntOp.addi (128#32) (BitVec.ofNat 32 q)))) 5#32)).toInt
      + (BitVec.setWidth 32 (IntOp.andi (IntOp.cmpi CmpIPredicate.sge (BitVec.ofNat 32 j)
            (IntOp.subi (IntOp.subi (510#32) (IntOp.addi (128#32) (BitVec.ofNat 32 q))) 5#32))
          (IntOp.cmpi CmpIPredicate.sle (BitVec.ofNat 32 j) 254#32))).toInt
      = ((taps 5 (65408 + q) (65280 + j) : ℕ) : ℤ) := by
  have hjj : (BitVec.ofNat 32 j).toInt = (j : ℤ) := small_toInt _ (by omega)
  have hc : (IntOp.addi (128#32) (BitVec.ofNat 32 q)).toInt = 128 + (q : ℤ) :=
    addi_toInt (by decide) (small_toInt _ (by omega)) (by omega) (by omega)
  have hd : (IntOp.subi (BitVec.ofNat 32 j) (IntOp.addi (128#32) (BitVec.ofNat 32 q))).toInt = (j : ℤ) - (128 + (q : ℤ)) := subi_toInt hjj hc (by omega) (by omega)
  have ha : (IntOp.absi (IntOp.subi (BitVec.ofNat 32 j) (IntOp.addi (128#32) (BitVec.ofNat 32 q)))).toInt = |(j : ℤ) - (128 + (q : ℤ))| := by
    rw [absi_toInt _ (by rw [hd]; omega), hd]
  have hh : (5#32 : BitVec 32).toInt = 5 := by decide
  have h1 : (254#32 : BitVec 32).toInt = 254 := by decide
  have hr : (IntOp.subi (IntOp.subi (510#32) (IntOp.addi (128#32) (BitVec.ofNat 32 q))) 5#32).toInt = ((510 : ℤ) - (128 + (q : ℤ))) - 5 :=
    subi_toInt (subi_toInt (by decide) hc (by omega) (by omega)) (by decide) (by omega) (by omega)
  rw [WordCmp.cmpi_sle_eq, WordCmp.cmpi_sge_eq, WordCmp.cmpi_sle_eq, WordCmp.andi_ofBool, ha, hh]
  rw [h1, hr, hjj, ← Bool.decide_and, bit_toInt, bit_toInt, taps_right 5 j q (by omega) hj hq]
  simp only [abs_le]
  split_ifs <;> omega

end Cert.KernelIdeal.Denoise

end

end
-- ==== Proof.KerMath.lean ====
module

public import proofs.«01_k».proof.Proof.EdgeTaps

/-! # The kernel's arithmetic on real signals

The running window sums away from the ends, the weighted sums at the ends, the variance in one pass and the threshold
on squares are the denoiser's. -/

@[expose] public section

set_option maxRecDepth 16384

noncomputable section

namespace Cert.KernelIdeal.Denoise

open Cert.Denoise

/-- A row laid between 128 zeros on each side. -/
def pad (f : ℕ → ℝ) (j : ℕ) : ℝ := if 128 ≤ j ∧ j < 65664 then f (j - 128) else 0

/-- The sums of two neighbours. -/
def pairs (f : ℕ → ℝ) (l : ℕ) : ℝ := pad f (128 + l) + pad f (129 + l)

/-- The sums of five neighbours. -/
def fives (f : ℕ → ℝ) (l : ℕ) : ℝ := pad (pairs f) (126 + l) + pad (pairs f) (128 + l) + pad f (130 + l)

/-- The sums of eleven neighbours. -/
def elevens (f : ℕ → ℝ) (l : ℕ) : ℝ := pad (fives f) (125 + l) + pad (fives f) (131 + l) + pad f (128 + l)

/-- Inside, a laid-out row is the row. -/
theorem pad_in (f : ℕ → ℝ) {j l : ℕ} (h : j = 128 + l) (hl : l < 65536) : pad f j = f l := by
  rw [pad, if_pos (by omega)]; congr 1; omega

/-- Away from the ends a sum of two neighbours is one. -/
theorem pairs_in (f : ℕ → ℝ) {l : ℕ} (hl : l + 1 < 65536) : pairs f l = f l + f (l + 1) := by
  rw [pairs, pad_in f rfl (by omega), pad_in f (l := l + 1) (by omega) hl]

/-- Away from the ends a sum of five neighbours is one. -/
theorem fives_in (f : ℕ → ℝ) {l : ℕ} (h0 : 2 ≤ l) (hl : l + 2 < 65536) :
    fives f l = f (l - 2) + f (l - 1) + f l + f (l + 1) + f (l + 2) := by
  rw [fives, pad_in _ (j := 126 + l) (l := l - 2) (by omega) (by omega), pad_in _ (j := 128 + l) rfl (by omega),
    pad_in f (j := 130 + l) (l := l + 2) (by omega) hl, pairs_in f (by omega), pairs_in f (by omega),
    show l - 2 + 1 = l - 1 by omega]
  ring

/-- Away from the ends a sum of eleven neighbours is one. -/
theorem elevens_in (f : ℕ → ℝ) {l : ℕ} (h0 : 5 ≤ l) (hl : l + 5 < 65536) :
    elevens f l = f (l - 5) + f (l - 4) + f (l - 3) + f (l - 2) + f (l - 1) + f l + f (l + 1) + f (l + 2) + f (l + 3)
      + f (l + 4) + f (l + 5) := by
  rw [elevens, pad_in _ (j := 125 + l) (l := l - 3) (by omega) (by omega),
    pad_in _ (j := 131 + l) (l := l + 3) (by omega) (by omega), pad_in f (j := 128 + l) rfl (by omega),
    fives_in f (by omega) (by omega), fives_in f (by omega) (by omega),
    show l - 3 - 2 = l - 5 by omega, show l - 3 - 1 = l - 4 by omega, show l - 3 + 1 = l - 2 by omega,
    show l - 3 + 2 = l - 1 by omega, show l + 3 - 2 = l + 1 by omega, show l + 3 - 1 = l + 2 by omega]
  ring

/-- Away from the ends no sample of a window is reflected. -/
theorem mir_in {h j : ℕ} (h0 : h ≤ j) (h1 : j - h < 65536) : mir h j = j - h := by
  rw [mir, if_neg (by omega), if_pos h1]

/-- Away from the ends the mean of five is the sum of five neighbours over five. -/
theorem mean2_in (f : ℕ → ℝ) {l : ℕ} (h0 : 2 ≤ l) (hl : l + 2 < 65536) : mean 2 f l = fives f l * (1 / 5) := by
  rw [fives_in f h0 hl]
  simp only [mean, Finset.sum_range_succ, Finset.sum_range_zero]
  rw [mir_in (by omega) (by omega), mir_in (by omega) (by omega), mir_in (by omega) (by omega),
    mir_in (by omega) (by omega), mir_in (by omega) (by omega),
    show l + 0 - 2 = l - 2 by omega, show l + 1 - 2 = l - 1 by omega, show l + 2 - 2 = l by omega,
    show l + 3 - 2 = l + 1 by omega, show l + 4 - 2 = l + 2 by omega]
  push_cast
  ring

/-- Away from the ends the mean of eleven is the sum of eleven neighbours over eleven. -/
theorem mean5_in (f : ℕ → ℝ) {l : ℕ} (h0 : 5 ≤ l) (hl : l + 5 < 65536) : mean 5 f l = elevens f l * (1 / 11) := by
  rw [elevens_in f h0 hl]
  simp only [mean, Finset.sum_range_succ, Finset.sum_range_zero]
  rw [mir_in (by omega) (by omega), mir_in (by omega) (by omega), mir_in (by omega) (by omega),
    mir_in (by omega) (by omega), mir_in (by omega) (by omega), mir_in (by omega) (by omega),
    mir_in (by omega) (by omega), mir_in (by omega) (by omega), mir_in (by omega) (by omega),
    mir_in (by omega) (by omega), mir_in (by omega) (by omega),
    show l + 0 - 5 = l - 5 by omega, show l + 1 - 5 = l - 4 by omega, show l + 2 - 5 = l - 3 by omega,
    show l + 3 - 5 = l - 2 by omega, show l + 4 - 5 = l - 1 by omega, show l + 5 - 5 = l by omega,
    show l + 6 - 5 = l + 1 by omega, show l + 7 - 5 = l + 2 by omega, show l + 8 - 5 = l + 3 by omega,
    show l + 9 - 5 = l + 4 by omega, show l + 10 - 5 = l + 5 by omega]
  push_cast
  ring

/-- A sum over samples weighted by the taps is the sum over the window. -/
theorem taps_sum (f : ℕ → ℝ) (h l base : ℕ) (hb : ∀ o < 2 * h + 1, base ≤ mir h (l + o) ∧ mir h (l + o) < base + 256) :
    ∑ j : Fin 256, f (base + j) * (taps h l (base + j) : ℝ) = ∑ o ∈ Finset.range (2 * h + 1), f (mir h (l + o)) := by
  have e : ∀ j : Fin 256, f (base + j) * (taps h l (base + j) : ℝ)
      = ∑ o ∈ Finset.range (2 * h + 1), if mir h (l + o) = base + j then f (mir h (l + o)) else 0 := by
    intro j
    rw [taps]; push_cast
    rw [Finset.mul_sum]
    refine Finset.sum_congr rfl fun o _ => ?_
    by_cases hc : mir h (l + o) = base + j
    · rw [if_pos hc, if_pos hc, hc, mul_one]
    · rw [if_neg hc, if_neg hc, mul_zero]
  rw [Finset.sum_congr rfl fun j _ => e j, Finset.sum_comm]
  refine Finset.sum_congr rfl fun o ho => ?_
  have hb := hb o (Finset.mem_range.1 ho)
  rw [Finset.sum_eq_single (⟨mir h (l + o) - base, by omega⟩ : Fin 256)]
  · exact if_pos (by simp only; omega)
  · intro j _ hj
    exact if_neg fun hc => hj (Fin.ext (by simp only; omega))
  · exact fun hc => absurd (Finset.mem_univ _) hc

/-- The mean of a window as a weighted sum of 256 samples. -/
theorem taps_mean (f : ℕ → ℝ) (h l base : ℕ) (hb : ∀ o < 2 * h + 1, base ≤ mir h (l + o) ∧ mir h (l + o) < base + 256)
    {inv : ℝ} (hi : inv = 1 / ((2 * h + 1 : ℕ) : ℝ)) :
    ∑ j : Fin 256, f (base + j) * ((taps h l (base + j) : ℝ) * inv) = mean h f l := by
  simp only [← mul_assoc]
  rw [← Finset.sum_mul, taps_sum f h l base hb, mean, hi]

/-- The windows of the first 128 samples read the first 256. -/
theorem window_left {h q : ℕ} (hh : h ≤ 5) (hq : q < 128) : ∀ o < 2 * h + 1, 0 ≤ mir h (q + o) ∧ mir h (q + o) < 0 + 256 := by
  intro o ho
  unfold mir
  split_ifs <;> omega

/-- The windows of the last 128 samples read the last 256. -/
theorem window_right {h q : ℕ} (hh : h ≤ 5) (hq : q < 128) :
    ∀ o < 2 * h + 1, 65280 ≤ mir h (65408 + q + o) ∧ mir h (65408 + q + o) < 65280 + 256 := by
  intro o ho
  unfold mir
  split_ifs <;> omega

/-- The sum of squared deviations from the sum of squares and the square of the sum. -/
theorem variance_eq (r : ℕ → ℝ) :
    (∑ k : Fin 65536, r k * r k - (∑ k : Fin 65536, r k) * (∑ k : Fin 65536, r k) * (1 / 65536)) * (1 / 65535) = variance r := by
  have e : ∀ k : Fin 65536, (r k - (∑ i : Fin 65536, r i) / 65536) * (r k - (∑ i : Fin 65536, r i) / 65536)
      = r k * r k - r k * (2 * ((∑ i : Fin 65536, r i) / 65536)) + ((∑ i : Fin 65536, r i) / 65536) ^ 2 := fun k => by ring
  rw [variance, Finset.sum_congr rfl fun k _ => e k, Finset.sum_add_distrib, Finset.sum_sub_distrib, ← Finset.sum_mul,
    Finset.sum_const, Finset.card_univ, Fintype.card_fin, nsmul_eq_mul]
  push_cast
  ring

/-- A residual exceeds the threshold when its square exceeds the square of the scale times the square of 3.5. -/
theorem threshold_iff (r : ℕ → ℝ) (v : ℝ) :
    max (Real.sqrt (variance r)) eps * max (Real.sqrt (variance r)) eps * (49 / 4) < v * v ↔ thr r < |v| := by
  have he : (0 : ℝ) < eps := by unfold eps; norm_num
  have hs : 0 < max (Real.sqrt (variance r)) eps := lt_max_of_lt_right he
  have hp : 0 ≤ max (Real.sqrt (variance r)) eps * (7 / 2) := mul_nonneg hs.le (by norm_num)
  rw [thr, max_comm eps, ← abs_mul_abs_self v, show max (Real.sqrt (variance r)) eps * max (Real.sqrt (variance r)) eps * (49 / 4)
    = (max (Real.sqrt (variance r)) eps * (7 / 2)) * (max (Real.sqrt (variance r)) eps * (7 / 2)) by ring]
  exact (mul_self_lt_mul_self_iff hp (abs_nonneg v)).symm

end Cert.KernelIdeal.Denoise

end

end
-- ==== Proof.KerPays.lean ====
module

public import proofs.«01_k».proof.Proof.KerMath

/-! # The kernel's vector expressions at an element

A block is eight rows; each row holds real values as a function of the place. -/

@[expose] public section

set_option maxRecDepth 16384

noncomputable section

namespace Cert.KernelIdeal.Denoise

open Cert.KernelIdeal Cert.KernelIdeal.Gen Idealize.ShloMosaic Idealize.ShloMosaic.TcCoe Idealize.SL.Sem Cert.Denoise

/-- Eight rows of `n` elements hold the real values `g`. -/
def At {n : ℕ} (v : FVec Ideal (⟨2, ![8, n]⟩ : Shape) .f32) (g : Fin 8 → ℕ → ℝ) : Prop :=
  ∀ (a : Fin 8) (l : Fin n), v (ix2 a l) = ((g a l : ℝ) : EReal)

/-- A finite sum of reals, as an extended real. -/
theorem coe_sum' {n : ℕ} (g : Fin n → ℝ) : ∑ k, ((g k : ℝ) : EReal) = ((∑ k, g k : ℝ) : EReal) :=
  (map_sum (⟨⟨Real.toEReal, EReal.coe_zero⟩, EReal.coe_add⟩ : ℝ →+ EReal) _ _).symm

/-- The greater of two reals, as an extended real. -/
theorem coe_max' (a b : ℝ) : ((max a b : ℝ) : EReal) = max (a : EReal) (b : EReal) :=
  EReal.coe_strictMono.monotone.map_max

/-- The named reciprocal of five. -/
theorem named_inv_local (w : BitVec FTy.f32.bits) : Named.named (F := Ideal) κ "inv_local" w = (((1 / 5 : ℝ) : ℝ) : EReal) := rfl
/-- The named reciprocal of eleven. -/
theorem named_inv_trend (w : BitVec FTy.f32.bits) : Named.named (F := Ideal) κ "inv_trend" w = (((1 / 11 : ℝ) : ℝ) : EReal) := rfl
/-- The named weight of the mean of five. -/
theorem named_blend (w : BitVec FTy.f32.bits) : Named.named (F := Ideal) κ "blend" w = (((2 / 5 : ℝ) : ℝ) : EReal) := rfl
/-- The named weight of the mean of eleven. -/
theorem named_trend_scaling (w : BitVec FTy.f32.bits) : Named.named (F := Ideal) κ "trend_scaling" w = (((3 / 5 : ℝ) : ℝ) : EReal) := rfl
/-- The named weight of a sum of five. -/
theorem named_blend_local (w : BitVec FTy.f32.bits) : Named.named (F := Ideal) κ "blend_local" w = (((2 / 25 : ℝ) : ℝ) : EReal) := rfl
/-- The named weight of a sum of eleven. -/
theorem named_blend_trend (w : BitVec FTy.f32.bits) : Named.named (F := Ideal) κ "blend_trend" w = (((3 / 55 : ℝ) : ℝ) : EReal) := rfl
/-- The named reciprocal of the degrees of freedom. -/
theorem named_inv_dof (w : BitVec FTy.f32.bits) : Named.named (F := Ideal) κ "inv_dof" w = (((1 / 65535 : ℝ) : ℝ) : EReal) := rfl
/-- The named weight of the detail. -/
theorem named_detail (w : BitVec FTy.f32.bits) : Named.named (F := Ideal) κ "detail" w = (((17 / 20 : ℝ) : ℝ) : EReal) := rfl
/-- The named weight of a spike. -/
theorem named_detail_spike (w : BitVec FTy.f32.bits) : Named.named (F := Ideal) κ "detail_spike" w = (((119 / 400 : ℝ) : ℝ) : EReal) := rfl

/-- A word read signed and converted. -/
theorem sitofp_at (w : BitVec 32) : (FloatOps.sitofp (F := Ideal) FTy.f32 w : EReal) = ((w.toInt : ℝ) : EReal) := rfl

/-- The sum of two words' values, when it is a natural number. -/
theorem toInt_add_real {x y : BitVec 32} {n : ℕ} (h : x.toInt + y.toInt = (n : ℤ)) : ((x.toInt : ℝ) + (y.toInt : ℝ)) = (n : ℝ) := by
  exact_mod_cast congrArg (Int.cast : ℤ → ℝ) h

/-- The left matrix of the mean of five. -/
theorem left2_at (j : Fin 256) (q : Fin 128) : k0_pay1 (F := Ideal) (ix2 j q) = (((taps 2 q j : ℝ) * (1 / 5) : ℝ) : EReal) := by
  pointwise [k0_pay1]
  rw [sitofp_at, sitofp_at, named_inv_local, ← EReal.coe_add, ← EReal.coe_mul, toInt_add_real (left2 j q j.2 q.2)]

/-- The right matrix of the mean of five. -/
theorem right2_at (j : Fin 256) (q : Fin 128) :
    k0_pay2 (F := Ideal) (ix2 j q) = (((taps 2 (65408 + q) (65280 + j) : ℝ) * (1 / 5) : ℝ) : EReal) := by
  pointwise [k0_pay2]
  rw [sitofp_at, sitofp_at, named_inv_local, ← EReal.coe_add, ← EReal.coe_mul, toInt_add_real (right2 j q j.2 q.2)]

/-- The left matrix of the blend. -/
theorem leftBlend_at (j : Fin 256) (q : Fin 128) : kernelRun0_A.sl.r (F := Ideal) (ix2 j q)
    = ((2 / 5 * ((taps 2 q j : ℝ) * (1 / 5)) + 3 / 5 * ((taps 5 q j : ℝ) * (1 / 11)) : ℝ) : EReal) := by
  unfold kernelRun0_A.sl.r kernelRun0_A.sl.v40 kernelRun0_A.sl.v41
  pointwise [k0_pay4, k0_pay3]
  rw [left2_at, sitofp_at, sitofp_at, named_inv_trend, named_blend, named_trend_scaling, ← EReal.coe_add, ← EReal.coe_mul,
    toInt_add_real (left5 j q j.2 q.2), ← EReal.coe_mul, ← EReal.coe_mul, ← EReal.coe_add]

/-- The right matrix of the blend. -/
theorem rightBlend_at (j : Fin 256) (q : Fin 128) : kernelRun0_A.sl.r_1 (F := Ideal) (ix2 j q)
    = ((2 / 5 * ((taps 2 (65408 + q) (65280 + j) : ℝ) * (1 / 5))
      + 3 / 5 * ((taps 5 (65408 + q) (65280 + j) : ℝ) * (1 / 11)) : ℝ) : EReal) := by
  unfold kernelRun0_A.sl.r_1 kernelRun0_A.sl.v40 kernelRun0_A.sl.v41
  pointwise [k0_pay5]
  rw [right2_at, sitofp_at, sitofp_at, named_inv_trend, named_blend, named_trend_scaling, ← EReal.coe_add, ← EReal.coe_mul,
    toInt_add_real (right5 j q j.2 q.2), ← EReal.coe_mul, ← EReal.coe_mul, ← EReal.coe_add]

/-- The sum of two rows. -/
theorem add_at {v w : FVec Ideal S8x65536 .f32} {g k : Fin 8 → ℕ → ℝ} (hv : At v g) (hw : At w k) :
    At (n := 65536) (addf v w) fun a l => g a l + k a l := by
  intro a l
  pointwise
  rw [hv, hw, EReal.coe_add]

/-- The sum of three rows. -/
theorem add3_at {v w u : FVec Ideal S8x65536 .f32} {g k m : Fin 8 → ℕ → ℝ} (hv : At v g) (hw : At w k) (hu : At u m) :
    At (n := 65536) (addf (addf v w) u) fun a l => g a l + k a l + m a l := by
  intro a l
  pointwise
  rw [hv, hw, hu, EReal.coe_add, EReal.coe_add]

/-- A left-edge product with the residual's matrix. -/
theorem residLeft_at {v : FVec Ideal S8x256 .f32} {f : Fin 8 → ℕ → ℝ} (hv : At v f) (a : Fin 8) (q : Fin 128) :
    k0_pay20 (F := Ideal) (k0_pay19 k0_pay1 v) (ix2 a q) = ((resid (f a) q : ℝ) : EReal) := by
  pointwise [k0_pay19, k0_pay20]
  simp only [hv _ _, left2_at, ← EReal.coe_mul]
  rw [coe_sum', ← EReal.coe_sub]
  refine congrArg Real.toEReal ?_
  have e := taps_mean (f a) 2 q 0 (window_left (by omega) q.2) (inv := 1 / 5) (by norm_num)
  simp only [Nat.zero_add] at e
  rw [e]; rfl

/-- A right-edge product with the residual's matrix. -/
theorem residRight_at {v : FVec Ideal S8x256 .f32} {f : Fin 8 → ℕ → ℝ} (hv : At v fun a j => f a (65280 + j)) (a : Fin 8) (q : Fin 128) :
    k0_pay22 (F := Ideal) k0_pay2 v (ix2 a q) = ((resid (f a) (65408 + q) : ℝ) : EReal) := by
  pointwise [k0_pay22]
  simp only [hv _ _, right2_at, ← EReal.coe_mul]
  rw [coe_sum', ← EReal.coe_sub]
  refine congrArg Real.toEReal ?_
  rw [taps_mean (f a) 2 (65408 + q) 65280 (window_right (by omega) q.2) (inv := 1 / 5) (by norm_num), ← Nat.add_assoc]
  rfl

/-- A weighted sum by two sets of weights. -/
theorem sum_two (x u w : Fin 256 → ℝ) :
    ∑ j, x j * (2 / 5 * u j + 3 / 5 * w j) = 2 / 5 * ∑ j, x j * u j + 3 / 5 * ∑ j, x j * w j := by
  rw [Finset.mul_sum, Finset.mul_sum, ← Finset.sum_add_distrib]
  exact Finset.sum_congr rfl fun j _ => by ring

/-- A left-edge product with the blend's matrix. -/
theorem blendLeft_at {v : FVec Ideal S8x256 .f32} {f : Fin 8 → ℕ → ℝ} (hv : At v f) (a : Fin 8) (q : Fin 128) :
    k0_pay21 (F := Ideal) kernelRun0_A.sl.r v (ix2 a q) = ((blend (f a) q : ℝ) : EReal) := by
  pointwise [k0_pay21]
  simp only [hv _ _, leftBlend_at, ← EReal.coe_mul]
  rw [coe_sum', sum_two]
  refine congrArg Real.toEReal ?_
  have e := taps_mean (f a) 2 q 0 (window_left (by omega) q.2) (inv := 1 / 5) (by norm_num)
  have e' := taps_mean (f a) 5 q 0 (window_left (by omega) q.2) (inv := 1 / 11) (by norm_num)
  simp only [Nat.zero_add] at e e'
  rw [e, e']; rfl

/-- A right-edge product with the blend's matrix. -/
theorem blendRight_at {v : FVec Ideal S8x256 .f32} {f : Fin 8 → ℕ → ℝ} (hv : At v fun a j => f a (65280 + j)) (a : Fin 8) (q : Fin 128) :
    k0_pay23 (F := Ideal) kernelRun0_A.sl.r_1 v (ix2 a q) = ((blend (f a) (65408 + q) : ℝ) : EReal) := by
  pointwise [k0_pay23]
  simp only [hv _ _, rightBlend_at, ← EReal.coe_mul]
  rw [coe_sum', sum_two]
  refine congrArg Real.toEReal ?_
  rw [taps_mean (f a) 2 (65408 + q) 65280 (window_right (by omega) q.2) (inv := 1 / 5) (by norm_num),
    taps_mean (f a) 5 (65408 + q) 65280 (window_right (by omega) q.2) (inv := 1 / 11) (by norm_num)]
  rfl

/-- The residual from a row of sums of five. -/
theorem resid_row {s x : FVec Ideal S8x65536 .f32} {g k : Fin 8 → ℕ → ℝ} (hs : At s g) (hx : At x k) :
    At (n := 65536) (k0_pay32 (F := Ideal) s x) fun a l => k a l - g a l * (1 / 5) := by
  intro a l
  pointwise [k0_pay32]
  rw [hs, named_inv_local]
  refine (congrArg (· - _) (hx a l)).trans ?_
  rw [← EReal.coe_mul, ← EReal.coe_sub]

/-- The blend from rows of sums. -/
theorem blend_row {s t x : FVec Ideal S8x65536 .f32} {g e k : Fin 8 → ℕ → ℝ} (hs : At s g) (ht : At t e) (hx : At x k) :
    At (n := 65536) (k0_pay33 (F := Ideal) s t x) fun a l => g a l * (2 / 25) + (e a l + k a l) * (3 / 55) := by
  intro a l
  pointwise [k0_pay33]
  rw [hs, ht, named_blend_local, named_blend_trend]
  refine (congrArg (fun z : EReal => _ + (_ + z) * _) (hx a l)).trans ?_
  rw [← EReal.coe_mul, ← EReal.coe_add, ← EReal.coe_mul, ← EReal.coe_add]

/-- The word of the signal's length. -/
theorem word_length : Ideal.ofBits .f32 0x47800000#32 = ((65536 : ℝ) : EReal) := by
  simp [Ideal.ofBits, Ideal.ieee, -EReal.coe_mul]; norm_num
/-- The word of the least scale. -/
theorem word_eps : Ideal.ofBits .f32 0x358637BD#32 = ((eps : ℝ) : EReal) := by
  simp [Ideal.ofBits, Ideal.ieee, -EReal.coe_mul, eps]; norm_num
/-- The word of the square of three and a half. -/
theorem word_limit2 : Ideal.ofBits .f32 0x41440000#32 = ((49 / 4 : ℝ) : EReal) := by
  simp [Ideal.ofBits, Ideal.ieee, -EReal.coe_mul]; norm_num

/-- The last step of a pass: the blend and the residual, its spikes damped, make one pass of the denoiser. -/
theorem step_row {r b : FVec Ideal S8x65536 .f32} {f : Fin 8 → ℕ → ℝ} (hr : At r fun a => resid (f a)) (hb : At b fun a => blend (f a)) :
    At (n := 65536) (k0_pay38 (F := Ideal) r b) fun a => step (f a) := by
  intro a l
  pointwise [k0_pay38]
  have hbb : (b : S8x65536.Idx → EReal) (ix2 a l) = ((blend (f a) l : ℝ) : EReal) := hb a l
  simp only [hr _ _, named_inv_dof, named_detail, named_detail_spike, word_length, word_eps, word_limit2]
  rw [Ideal.div_coe (by norm_num)]
  simp only [← EReal.coe_mul, coe_sum', ← EReal.coe_sub]
  rw [variance_eq, max_eq_left (a := ((variance (resid (f a)) : ℝ) : EReal)) (b := 0) (by rw [← EReal.coe_zero]; exact EReal.coe_le_coe_iff.2 (variance_nonneg _)), Ideal.sqrt_coe,
    if_neg (not_lt.2 (variance_nonneg _)), ← coe_max']
  simp only [← EReal.coe_mul, EReal.coe_lt_coe_iff, threshold_iff]
  refine (congrArg (· + _) hbb).trans ?_
  rw [step]
  split_ifs
  · rw [← EReal.coe_add]; refine congrArg Real.toEReal ?_; ring
  · rw [← EReal.coe_add]

/-- The first pass's last vector expression is the second's. -/
theorem pay27_at (r : FVec Ideal S8x65536 .f32) (b : Vec Ideal S8x65536 .f32) (a : Fin 8) (l : Fin 65536) :
    k0_pay27 (F := Ideal) r (k0_pay24 r) (k0_pay25 r) k0_pay26 b (ix2 a l) = k0_pay38 (F := Ideal) r b (ix2 a l) := by
  pointwise [k0_pay24, k0_pay25, k0_pay26, k0_pay27, k0_pay38]

/-- The first pass's residual expression is the second's. -/
theorem pay17_eq (a b c x : Vec Ideal S8x65536 .f32) :
    k0_pay17 (F := Ideal) a b c x = k0_pay32 (k0_pay15 (F := Ideal) a b c) x := rfl
/-- The first pass's blend expression is the second's. -/
theorem pay18_eq (a b c d e x : Vec Ideal S8x65536 .f32) :
    k0_pay18 (F := Ideal) a b c d e x = k0_pay33 (k0_pay15 (F := Ideal) a b c) (addf d e) x := rfl
/-- The first pass's sum of five is two additions. -/
theorem pay15_eq (a b c : Vec Ideal S8x65536 .f32) : k0_pay15 (F := Ideal) a b c = addf (addf a b) c := rfl
/-- The second pass's sum of five is two additions. -/
theorem pay29_eq (a b c : Vec Ideal S8x65536 .f32) : k0_pay29 (F := Ideal) a b c = addf (addf a b) c := rfl
/-- The second pass's partial sum of eleven is an addition. -/
theorem pay31_eq (a b : Vec Ideal S8x65536 .f32) : k0_pay31 (F := Ideal) a b = addf a b := rfl
/-- The sums of five as they are stored. -/
theorem pay16_at {a b c : FVec Ideal S8x65536 .f32} {f : Fin 8 → ℕ → ℝ} (h : At (n := 65536) (addf (addf a b) c) f) :
    At (n := 65536) (k0_pay16 (F := Ideal) a b c) f := by
  intro i l
  rw [← h i l]
  pointwise [k0_pay16, k0_pay15]
/-- The second pass stores its sums of five as the first. -/
theorem pay30_eq (a b c : Vec Ideal S8x65536 .f32) : k0_pay30 (F := Ideal) a b c = k0_pay16 a b c := rfl
/-- The sums of two as they are stored. -/
theorem pay28_at {a b : FVec Ideal S8x65536 .f32} {f : Fin 8 → ℕ → ℝ} (h : At (n := 65536) (addf a b) f) :
    At (n := 65536) (k0_pay28 (F := Ideal) a b) f := by
  intro i l
  rw [← h i l]
  pointwise [k0_pay28]
/-- The second pass's left-edge residual is the first's. -/
theorem pay34_eq (m : FVec Ideal S256x128 .f32) (v : Vec Ideal S8x256 .f32) : k0_pay34 m v = k0_pay20 (k0_pay19 m v) := rfl
/-- The second pass's left-edge blend is the first's. -/
theorem pay35_eq (m : FVec Ideal S256x128 .f32) (v : Vec Ideal S8x256 .f32) : k0_pay35 m v = k0_pay21 m v := rfl
/-- The second pass's right-edge residual is the first's. -/
theorem pay36_eq (m : FVec Ideal S256x128 .f32) (v : Vec Ideal S8x256 .f32) : k0_pay36 m v = k0_pay22 m v := rfl
/-- The second pass's right-edge blend is the first's. -/
theorem pay37_eq (m : FVec Ideal S256x128 .f32) (v : Vec Ideal S8x256 .f32) : k0_pay37 m v = k0_pay23 m v := rfl

end Cert.KernelIdeal.Denoise
end
end
-- ==== Proof.KerBlock.lean ====
module

public import proofs.«01_k».proof.Proof.KerPays
public import Idealize.ShloMosaic.Lib.Pipeline.ValueKit
public import Idealize.ShloMosaic.Lib.WholeRead

/-! # What the kernel computes on one block

The stores and loads of the two passes on eight rows: each pass lays the rows out between zeros, forms the running sums,
corrects both ends, and puts the pass's result back in the rows' place. -/

@[expose] public section

set_option maxRecDepth 16384

noncomputable section

namespace Cert.KernelIdeal.Denoise

open Cert.KernelIdeal Cert.KernelIdeal.Gen Idealize.ShloMosaic Idealize.ShloMosaic.TcCoe Idealize.SL.Sem Cert.Denoise

/-- Eight rows of `n` elements. -/
abbrev Rows (n : ℕ) : Shape := ⟨2, ![8, n]⟩

/-- A store to a buffer of eight rows. -/
abbrev Store (N : ℕ) : Type := View.Piece (Elt Ideal) (Rows N) .f32

/-- A store of `n` columns from column `o` on. -/
def cols {N : ℕ} (o n : ℕ) (inb : ∀ a, (![0, o] : Fin 2 → ℕ) a + (![8, n] : Fin 2 → ℕ) a ≤ (Rows N).size a)
    (w : FVec Ideal (Rows n) .f32) : Store N :=
  ⟨Rect.unit ![0, o] ![8, n] inb, w⟩

/-- A buffer after some stores holds, at a column, the real values `g`. -/
def Lies {N : ℕ} (L : List (Store N)) (g : Fin 8 → ℕ → ℝ) : Prop :=
  ∀ (a : Fin 8) (j : Fin N), View.canon L (ix2 a j) = ((g a j : ℝ) : EReal)

/-- A column under the last store holds what it stored. -/
theorem canon_hit {N : ℕ} {o n : ℕ} (inb) (w : FVec Ideal (Rows n) .f32) (L : List (Store N)) (a : Fin 8) (l : Fin n) (j : Fin N)
    (h : (j : ℕ) = o + l) : View.canon (cols o n inb w :: L) (ix2 a j) = w (ix2 a l) := by
  have e : (ix2 a j : (Rows N).Idx) = (Rect.unit ![0, o] ![8, n] inb : Rect (Rows N)).emb (ix2 a l) := by
    funext b
    apply Fin.ext
    refine Eq.trans ?_ (ValueKit.rect_emb_unit_val _ _ inb (ix2 a l) b).symm
    fin_cases b
    · exact (Nat.zero_add _).symm
    · exact h
  rw [e]
  exact View.canon_cons_emb _ _ L _

/-- A column the last store does not reach holds what it held. -/
theorem canon_miss {N : ℕ} {o n : ℕ} (inb) (w : FVec Ideal (Rows n) .f32) (L : List (Store N)) (a : Fin 8) (j : Fin N)
    (h : (j : ℕ) < o ∨ o + n ≤ j) : View.canon (cols o n inb w :: L) (ix2 a j) = View.canon L (ix2 a j) := by
  refine View.canon_cons_of_not_mem _ L fun hm => ?_
  have h1 := (Rect.mem_set_unit (inb := inb).1 hm) 1
  have h2 : o ≤ (j : ℕ) ∧ (j : ℕ) < o + n := h1
  omega

/-- A load of `n` columns from column `o` on reads the buffer there. -/
theorem read_at {N : ℕ} {L : List (Store N)} {g : Fin 8 → ℕ → ℝ} (hL : Lies L g) {sp : Space} (v : View sig .tc sp (Rows N) .f32) {o n : ℕ} (inb) :
    At (n := n) (v.readCov L (Rect.unit ![0, o] ![8, n] inb : Rect (Rows N)).toLoadRect) fun a l => g a (o + l) := by
  intro a l
  rw [View.readCov_eq_canon']
  have hN : o + n ≤ N := inb 1
  have e : (Rect.unit ![0, o] ![8, n] inb : Rect (Rows N)).toLoadRect.idx (ix2 a l) = ix2 a ⟨o + l, by have := l.2; omega⟩ := by
    funext b
    apply Fin.ext
    refine (ValueKit.rect_emb_unit_val _ _ inb (ix2 a l) b).trans ?_
    fin_cases b
    · exact Nat.zero_add _
    · rfl
  show View.canon L _ = _
  rw [e]
  exact hL a _

/-- Both sides of a buffer hold zeros. -/
def Sides (L : List (Store 65792)) : Prop :=
  ∀ (a : Fin 8) (j : Fin 65792), (j : ℕ) < 128 ∨ 65664 ≤ (j : ℕ) → View.canon L (ix2 a j) = (0 : EReal)

/-- Zeros stored at both sides stay there. -/
theorem sides_nil {w w' : FVec Ideal (Rows 128) .f32} (inb inb') (h : ∀ a l, w (ix2 a l) = 0) (h' : ∀ a l, w' (ix2 a l) = 0) :
    Sides [cols 65664 128 inb w, cols 0 128 inb' w'] := by
  intro a j hj
  have := j.2
  by_cases h1 : 65664 ≤ (j : ℕ)
  · exact (canon_hit inb w _ a ⟨j - 65664, by omega⟩ j (by simp only; omega)).trans (h _ _)
  · exact (canon_miss inb w _ a j (by omega)).trans
      ((canon_hit inb' w' _ a ⟨j, by omega⟩ j (by simp only; omega)).trans (h' _ _))

/-- A store between the sides leaves them. -/
theorem sides_cons {L : List (Store 65792)} (hL : Sides L) (inb) (w : FVec Ideal (Rows 65536) .f32) :
    Sides (cols 128 65536 inb w :: L) := by
  intro a j hj
  exact (canon_miss inb w L a j (by omega)).trans (hL a j hj)

/-- A store between zero sides lays rows out. -/
theorem lies_cons {L : List (Store 65792)} (hL : Sides L) (inb) {w : FVec Ideal (Rows 65536) .f32} {f : Fin 8 → ℕ → ℝ} (hw : At w f) :
    Lies (cols 128 65536 inb w :: L) fun a => pad (f a) := by
  intro a j
  by_cases h1 : 128 ≤ (j : ℕ) ∧ (j : ℕ) < 65664
  · refine (canon_hit inb w L a ⟨j - 128, by omega⟩ j (by simp only; omega)).trans ((hw _ _).trans ?_)
    exact congrArg (fun r : ℝ => (r : EReal)) (if_pos h1).symm
  · refine (canon_miss inb w L a j (by omega)).trans ((hL a j (by omega)).trans ?_)
    exact EReal.coe_zero.symm.trans (congrArg (fun r : ℝ => (r : EReal)) (if_neg h1).symm)

/-- Stores to the last 128 columns, the first 128 and before them to all: each column has its last store. -/
theorem lies_ends {L : List (Store 65536)} (inb inb' inb'') {w w' : FVec Ideal (Rows 128) .f32} {w'' : FVec Ideal (Rows 65536) .f32}
    {g k : Fin 8 → ℕ → ℝ} (hr : At w fun a q => g a (65408 + q)) (hl : At w' g) (hm : At w'' k)
    (e : ∀ a l, 128 ≤ l → l < 65408 → k a l = g a l) :
    Lies (cols 65408 128 inb w :: cols 0 128 inb' w' :: cols 0 65536 inb'' w'' :: L) g := by
  intro a j
  have hj := j.2
  by_cases h1 : 65408 ≤ (j : ℕ)
  · refine (canon_hit inb w _ a ⟨j - 65408, by omega⟩ j (by simp only; omega)).trans ((hr _ _).trans ?_)
    refine congrArg (fun n => ((g a n : ℝ) : EReal)) ?_
    simp only; omega
  refine (canon_miss inb w _ a j (by omega)).trans ?_
  by_cases h2 : (j : ℕ) < 128
  · exact (canon_hit inb' w' _ a ⟨j, h2⟩ j (by simp only; omega)).trans (hl _ _)
  refine (canon_miss inb' w' _ a j (by omega)).trans ?_
  refine (canon_hit inb'' w'' _ a ⟨j, hj⟩ j (by simp only; omega)).trans ((hm _ _).trans ?_)
  rw [e a j (by omega) (by omega)]

/-- Rows that hold equal values. -/
theorem At.congr {n : ℕ} {v : FVec Ideal (Rows n) .f32} {g k : Fin 8 → ℕ → ℝ} (h : At v g) (e : ∀ a l, l < n → g a l = k a l) : At v k :=
  fun a l => (h a l).trans (by rw [e a l l.2])

/-- A part of rows laid out between zeros. -/
theorem pad_part {n : ℕ} {v : FVec Ideal (Rows n) .f32} {f : Fin 8 → ℕ → ℝ} {o : ℕ} (h : At v fun a l => pad (f a) (128 + o + l))
    (ho : o + n ≤ 65536) : At v fun a l => f a (o + l) :=
  h.congr fun a l hl => pad_in _ (by omega) (by omega)

/-- Away from the ends the residual is read off the sums of five. -/
theorem resid_mid (f : ℕ → ℝ) {l : ℕ} (h0 : 128 ≤ l) (hl : l < 65408) : f l - fives f l * (1 / 5) = resid f l := by
  rw [resid, mean2_in f (by omega) (by omega)]

/-- Away from the ends the blend is read off the sums of five and eleven. -/
theorem blend_mid (f : ℕ → ℝ) {l : ℕ} (h0 : 128 ≤ l) (hl : l < 65408) :
    fives f l * (2 / 25) + (pad (fives f) (125 + l) + pad (fives f) (131 + l) + f l) * (3 / 55) = blend f l := by
  rw [blend, mean2_in f (by omega) (by omega), mean5_in f (by omega) (by omega), elevens, pad_in f (j := 128 + l) rfl (by omega)]
  ring

variable (c : Dev nD) (arg1 : Memref sig .tc .vmem S8x65536 .f32) (harg1 : arg1.IsWhole) (arg3 arg4 arg5 : Memref sig .tc .vmem S8x65792 .f32)
  (arg6 arg7 : Memref sig .tc .vmem S8x65536 .f32) (x0 : Vec Ideal S8x65536 .f32)

/-- The zeros stored at the sides. -/
theorem v93_at (a : Fin 8) (l : Fin 128) : kernelRun0_A.sl.v93 (F := Ideal) (ix2 a l) = 0 := by
  unfold kernelRun0_A.sl.v93
  pointwise [k0_pay6]

/-- The first pass starts at the block. -/
theorem v113_at {f : Fin 8 → ℕ → ℝ} (h : At x0 f) : At (kernelRun0_A.sl.v113 (F := Ideal) c arg1 harg1 x0) f := by
  have e : kernelRun0_A.sl.v113 (F := Ideal) c arg1 harg1 x0 = x0 := by
    unfold kernelRun0_A.sl.v113 kernelRun0_A.sl.v110
    rw [shapeCast_self, shapeCast_self]
    funext x
    refine (Memref.IsWhole.readAt_unread harg1 x0 _ x).trans (congrArg x0 ?_)
    funext b
    apply Fin.ext
    refine (ValueKit.rect_emb_unit_val _ _ _ x b).trans ?_
    fin_cases b <;> exact Nat.zero_add _
  rw [e]; exact h

/-- The rows laid out in the first pass. -/
theorem HS0_3_lies {f : Fin 8 → ℕ → ℝ} (h : At x0 f) : Lies (kernelRun0_A.sl.HS0_3 (F := Ideal) c arg1 harg1 x0) fun a => pad (f a) :=
  lies_cons (sides_nil _ _ v93_at v93_at) _ (v113_at c arg1 harg1 x0 h)

/-- The sides of the rows laid out in the first pass. -/
theorem HS0_3_sides : Sides (kernelRun0_A.sl.HS0_3 (F := Ideal) c arg1 harg1 x0) :=
  sides_cons (sides_nil _ _ v93_at v93_at) _ _

/-- The sums of two in the first pass. -/
theorem v119_at {f : Fin 8 → ℕ → ℝ} (h : At x0 f) : At (kernelRun0_A.sl.v119 (F := Ideal) c arg1 harg1 arg3 x0) fun a => pairs (f a) := by
  have h0 : At (kernelRun0_A.sl.v114 (F := Ideal) c arg1 harg1 arg3 x0) _ := read_at (HS0_3_lies c arg1 harg1 x0 h) arg3.view _
  have h1 : At (kernelRun0_A.sl.v115 (F := Ideal) c arg1 harg1 arg3 x0) _ := read_at (HS0_3_lies c arg1 harg1 x0 h) arg3.view _
  have h2 := add_at h0 h1
  intro a l
  refine Eq.trans ?_ (h2 a l)
  unfold kernelRun0_A.sl.v119 kernelRun0_A.sl.v116
  pointwise

/-- The sums of two laid out in the first pass. -/
theorem HS1_3_lies {f : Fin 8 → ℕ → ℝ} (h : At x0 f) : Lies (kernelRun0_A.sl.HS1_3 (F := Ideal) c arg1 harg1 arg3 x0) fun a => pad (pairs (f a)) :=
  lies_cons (sides_nil _ _ v93_at v93_at) _ (v119_at c arg1 harg1 arg3 x0 h)

/-- Their sides. -/
theorem HS1_3_sides : Sides (kernelRun0_A.sl.HS1_3 (F := Ideal) c arg1 harg1 arg3 x0) :=
  sides_cons (sides_nil _ _ v93_at v93_at) _ _

/-- The sums of five in the first pass. -/
theorem fives1_at {f : Fin 8 → ℕ → ℝ} (h : At x0 f) : At (n := 65536) (addf (addf (kernelRun0_A.sl.v120 (F := Ideal) c arg1 harg1 arg3 arg4 x0)
    (kernelRun0_A.sl.v121 (F := Ideal) c arg1 harg1 arg3 arg4 x0)) (kernelRun0_A.sl.v123 (F := Ideal) c arg1 harg1 arg3 x0)) fun a => fives (f a) :=
  add3_at (read_at (HS1_3_lies c arg1 harg1 arg3 x0 h) arg4.view _) (read_at (HS1_3_lies c arg1 harg1 arg3 x0 h) arg4.view _)
    (read_at (HS0_3_lies c arg1 harg1 x0 h) arg3.view _)

/-- The sums of five laid out in the first pass. -/
theorem HS2_3_lies {f : Fin 8 → ℕ → ℝ} (h : At x0 f) : Lies (kernelRun0_A.sl.HS2_3 (F := Ideal) c arg1 harg1 arg3 arg4 x0) fun a => pad (fives (f a)) :=
  lies_cons (sides_nil _ _ v93_at v93_at) _ (pay16_at (fives1_at c arg1 harg1 arg3 arg4 x0 h))

/-- Their sides. -/
theorem HS2_3_sides : Sides (kernelRun0_A.sl.HS2_3 (F := Ideal) c arg1 harg1 arg3 arg4 x0) :=
  sides_cons (sides_nil _ _ v93_at v93_at) _ _

/-- The residual rows of the first pass. -/
theorem HS3_3_lies {f : Fin 8 → ℕ → ℝ} (h : At x0 f) : Lies (kernelRun0_A.sl.HS3_3 (F := Ideal) c arg1 harg1 arg3 arg4 x0) fun a => resid (f a) := by
  have hL := HS0_3_lies c arg1 harg1 x0 h
  refine lies_ends _ _ _ (residRight_at (pad_part (o := 65280) (read_at hL arg3.view _) (by omega)))
    (residLeft_at ((pad_part (o := 0) (read_at hL arg3.view _) (by omega)).congr fun a l _ => by rw [Nat.zero_add]))
    (k := fun a l => f a l - fives (f a) l * (1 / 5)) ?_ fun a l h0 hl => resid_mid _ h0 hl
  exact resid_row (fives1_at c arg1 harg1 arg3 arg4 x0 h)
    ((pad_part (o := 0) (read_at hL arg3.view _) (by omega)).congr fun a l _ => by rw [Nat.zero_add])

/-- The blend rows of the first pass. -/
theorem HS4_3_lies {f : Fin 8 → ℕ → ℝ} (h : At x0 f) : Lies (kernelRun0_A.sl.HS4_3 (F := Ideal) c arg1 harg1 arg3 arg4 arg5 x0) fun a => blend (f a) := by
  have hL := HS0_3_lies c arg1 harg1 x0 h
  have hS := HS2_3_lies c arg1 harg1 arg3 arg4 x0 h
  refine lies_ends _ _ _ (blendRight_at (pad_part (o := 65280) (read_at hL arg3.view _) (by omega)))
    (blendLeft_at ((pad_part (o := 0) (read_at hL arg3.view _) (by omega)).congr fun a l _ => by rw [Nat.zero_add]))
    (k := fun a l => fives (f a) l * (2 / 25) + (pad (fives (f a)) (125 + l) + pad (fives (f a)) (131 + l) + f a l) * (3 / 55))
    ?_ fun a l h0 hl => blend_mid _ h0 hl
  exact blend_row (fives1_at c arg1 harg1 arg3 arg4 x0 h) (add_at (read_at hS arg5.view _) (read_at hS arg5.view _))
    ((pad_part (o := 0) (read_at hL arg3.view _) (by omega)).congr fun a l _ => by rw [Nat.zero_add])

/-- The rows the first pass leaves. -/
theorem pass1_at {f : Fin 8 → ℕ → ℝ} (h : At x0 f) : At (n := 65536) (k0_pay27 (kernelRun0_A.sl.v170 (F := Ideal) c arg1 harg1 arg3 arg4 arg6 x0)
    (kernelRun0_A.sl.r_4 (F := Ideal) c arg1 harg1 arg3 arg4 arg6 x0) (kernelRun0_A.sl.r_5 (F := Ideal) c arg1 harg1 arg3 arg4 arg6 x0)
    k0_pay26 (kernelRun0_A.sl.v197 (F := Ideal) c arg1 harg1 arg3 arg4 arg5 arg7 x0)) fun a => step (f a) := by
  have hr : At (kernelRun0_A.sl.v170 (F := Ideal) c arg1 harg1 arg3 arg4 arg6 x0) fun a => resid (f a) := by
    refine At.congr (read_at (HS3_3_lies c arg1 harg1 arg3 arg4 x0 h) arg6.view _) fun a l _ => by rw [Nat.zero_add]
  have hb : At (kernelRun0_A.sl.v197 (F := Ideal) c arg1 harg1 arg3 arg4 arg5 arg7 x0) fun a => blend (f a) := by
    refine At.congr (read_at (HS4_3_lies c arg1 harg1 arg3 arg4 arg5 x0 h) arg7.view _) fun a l _ => by rw [Nat.zero_add]
  intro a l
  exact (pay27_at _ _ a l).trans (step_row hr hb a l)

/-- The rows laid out in the second pass are those the first leaves. -/
theorem HS0_4_lies {f : Fin 8 → ℕ → ℝ} (h : At x0 f) : Lies (kernelRun0_A.sl.HS0_4 (F := Ideal) c arg1 harg1 arg3 arg4 arg5 arg6 arg7 x0) fun a => pad (step (f a)) :=
  lies_cons (HS0_3_sides c arg1 harg1 x0) _ (pass1_at c arg1 harg1 arg3 arg4 arg5 arg6 arg7 x0 h)

/-- The sums of two laid out in the second pass. -/
theorem HS1_4_lies {f : Fin 8 → ℕ → ℝ} (h : At x0 f) : Lies (kernelRun0_A.sl.HS1_4 (F := Ideal) c arg1 harg1 arg3 arg4 arg5 arg6 arg7 x0) fun a => pad (pairs (step (f a))) := by
  refine lies_cons (HS1_3_sides c arg1 harg1 arg3 x0) _ ?_
  have hL := HS0_4_lies c arg1 harg1 arg3 arg4 arg5 arg6 arg7 x0 h
  have h0 : At (kernelRun0_A.sl.v202 (F := Ideal) c arg1 harg1 arg3 arg4 arg5 arg6 arg7 x0) _ := read_at hL arg3.view _
  have h1 : At (kernelRun0_A.sl.v203 (F := Ideal) c arg1 harg1 arg3 arg4 arg5 arg6 arg7 x0) _ := read_at hL arg3.view _
  exact pay28_at (add_at h0 h1)

/-- The sums of five in the second pass. -/
theorem r_6_at {f : Fin 8 → ℕ → ℝ} (h : At x0 f) : At (n := 65536) (kernelRun0_A.sl.r_6 (F := Ideal) c arg1 harg1 arg3 arg4 arg5 arg6 arg7 x0) fun a => fives (step (f a)) :=
  add3_at (read_at (HS1_4_lies c arg1 harg1 arg3 arg4 arg5 arg6 arg7 x0 h) arg4.view _) (read_at (HS1_4_lies c arg1 harg1 arg3 arg4 arg5 arg6 arg7 x0 h) arg4.view _)
    (read_at (HS0_4_lies c arg1 harg1 arg3 arg4 arg5 arg6 arg7 x0 h) arg3.view _)

/-- The sums of five laid out in the second pass. -/
theorem HS2_4_lies {f : Fin 8 → ℕ → ℝ} (h : At x0 f) : Lies (kernelRun0_A.sl.HS2_4 (F := Ideal) c arg1 harg1 arg3 arg4 arg5 arg6 arg7 x0) fun a => pad (fives (step (f a))) :=
  lies_cons (HS2_3_sides c arg1 harg1 arg3 arg4 x0) _ (pay16_at (r_6_at c arg1 harg1 arg3 arg4 arg5 arg6 arg7 x0 h))

/-- The rows of the second pass read back. -/
theorem v202_at {f : Fin 8 → ℕ → ℝ} (h : At x0 f) : At (n := 65536) (kernelRun0_A.sl.v202 (F := Ideal) c arg1 harg1 arg3 arg4 arg5 arg6 arg7 x0) fun a => step (f a) :=
  (pad_part (o := 0) (read_at (HS0_4_lies c arg1 harg1 arg3 arg4 arg5 arg6 arg7 x0 h) arg3.view _) (by omega)).congr fun a l _ => by rw [Nat.zero_add]

/-- Their first 256 columns. -/
theorem v236_at {f : Fin 8 → ℕ → ℝ} (h : At x0 f) : At (n := 256) (kernelRun0_A.sl.v236 (F := Ideal) c arg1 harg1 arg3 arg4 arg5 arg6 arg7 x0) fun a => step (f a) :=
  (pad_part (o := 0) (read_at (HS0_4_lies c arg1 harg1 arg3 arg4 arg5 arg6 arg7 x0 h) arg3.view _) (by omega)).congr fun a l _ => by rw [Nat.zero_add]

/-- Their last 256 columns. -/
theorem v237_at {f : Fin 8 → ℕ → ℝ} (h : At x0 f) : At (n := 256) (kernelRun0_A.sl.v237 (F := Ideal) c arg1 harg1 arg3 arg4 arg5 arg6 arg7 x0) fun a l => step (f a) (65280 + l) :=
  pad_part (o := 65280) (read_at (HS0_4_lies c arg1 harg1 arg3 arg4 arg5 arg6 arg7 x0 h) arg3.view _) (by omega)

/-- The residual rows of the second pass. -/
theorem HS3_6_lies {f : Fin 8 → ℕ → ℝ} (h : At x0 f) : Lies (kernelRun0_A.sl.HS3_6 (F := Ideal) c arg1 harg1 arg3 arg4 arg5 arg6 arg7 x0) fun a => resid (step (f a)) := by
  refine lies_ends _ _ _ (residRight_at (v237_at c arg1 harg1 arg3 arg4 arg5 arg6 arg7 x0 h)) (residLeft_at (v236_at c arg1 harg1 arg3 arg4 arg5 arg6 arg7 x0 h))
    (k := fun a l => step (f a) l - fives (step (f a)) l * (1 / 5)) ?_ fun a l h0 hl => resid_mid _ h0 hl
  exact resid_row (r_6_at c arg1 harg1 arg3 arg4 arg5 arg6 arg7 x0 h) (v202_at c arg1 harg1 arg3 arg4 arg5 arg6 arg7 x0 h)

/-- The blend rows of the second pass. -/
theorem HS4_6_lies {f : Fin 8 → ℕ → ℝ} (h : At x0 f) : Lies (kernelRun0_A.sl.HS4_6 (F := Ideal) c arg1 harg1 arg3 arg4 arg5 arg6 arg7 x0) fun a => blend (step (f a)) := by
  have hS := HS2_4_lies c arg1 harg1 arg3 arg4 arg5 arg6 arg7 x0 h
  refine lies_ends _ _ _ (blendRight_at (v237_at c arg1 harg1 arg3 arg4 arg5 arg6 arg7 x0 h)) (blendLeft_at (v236_at c arg1 harg1 arg3 arg4 arg5 arg6 arg7 x0 h))
    (k := fun a l => fives (step (f a)) l * (2 / 25) + (pad (fives (step (f a))) (125 + l) + pad (fives (step (f a))) (131 + l) + step (f a) l) * (3 / 55))
    ?_ fun a l h0 hl => blend_mid _ h0 hl
  exact blend_row (r_6_at c arg1 harg1 arg3 arg4 arg5 arg6 arg7 x0 h) (add_at (read_at hS arg5.view _) (read_at hS arg5.view _)) (v202_at c arg1 harg1 arg3 arg4 arg5 arg6 arg7 x0 h)

/-- On a block that holds the real rows `f`, the kernel computes two passes of each row. -/
theorem block_at {f : Fin 8 → ℕ → ℝ} (h : At x0 f) : At (n := 65536) (kernelRun0_A.sl.r_9 (F := Ideal) c arg1 harg1 arg3 arg4 arg5 arg6 arg7 x0) fun a => step (step (f a)) := by
  have hr : At (kernelRun0_A.sl.v258 (F := Ideal) c arg1 harg1 arg3 arg4 arg5 arg6 arg7 x0) fun a => resid (step (f a)) :=
    At.congr (read_at (HS3_6_lies c arg1 harg1 arg3 arg4 arg5 arg6 arg7 x0 h) arg6.view _) fun a l _ => by rw [Nat.zero_add]
  have hb : At (kernelRun0_A.sl.v285 (F := Ideal) c arg1 harg1 arg3 arg4 arg5 arg6 arg7 x0) fun a => blend (step (f a)) :=
    At.congr (read_at (HS4_6_lies c arg1 harg1 arg3 arg4 arg5 arg6 arg7 x0 h) arg7.view _) fun a l _ => by rw [Nat.zero_add]
  exact step_row hr hb

end Cert.KernelIdeal.Denoise
end
end
-- ==== Proof.KerArray.lean ====
module

public import proofs.«01_k».proof.Proof.KerBlock
public import Idealize.ShloMosaic.Lib.Claim

/-! # The kernel's result array

Each grid point writes eight rows of the result, two passes of the same eight rows of the argument; the sixteen points
write every row. -/

@[expose] public section

set_option maxRecDepth 16384

noncomputable section

namespace Cert.KernelIdeal.Denoise

open Cert.KernelIdeal Cert.KernelIdeal.Gen Idealize.ShloMosaic Idealize.ShloMosaic.TcCoe Idealize.SL.Sem Cert.Denoise

/-- Two passes of every signal, one signal per row. -/
def result (f : Fin 16 → Fin 8 → ℕ → ℝ) : Vec Ideal S128x65536 .f32 := fun i =>
  ((step (step (f ⟨(i 0 : ℕ) / 8, by have : (i 0 : ℕ) < 128 := (i 0).2; omega⟩ ⟨(i 0 : ℕ) % 8, by omega⟩)) (i 1) : ℝ) : EReal)

/-- Grid point `t`'s block of the argument is the `t`-th one. -/
theorem idx_in : ∀ t : Fin cfg0.N, win0_0.index t = ![(t : ℕ), 0] := (by decide +kernel : ∀ t : Fin grid0.N, _)

/-- Grid point `t`'s block of the result is the `t`-th one. -/
theorem idx_out : ∀ t : Fin cfg0.N, win0_1.index t = ![(t : ℕ), 0] := (by decide +kernel : ∀ t : Fin grid0.N, _)

variable (m : (ℓ : Loc nD τ sig) → Buf (Elt Ideal) ℓ) (c : Dev nD) {f : Fin 16 → Fin 8 → ℕ → ℝ}

/-- The argument as the grid finds it: one signal per row. -/
theorem entry_at (hf : ∀ b s (l : Fin 65536), (m ((c : Thread nD τ).loc main_arg0) : FVec Ideal S16x8x65536 .f32) (ix3 b s l) = ((f b s l : ℝ) : EReal))
    (i : Fin 128) (l : Fin 65536) :
    (V m c main_v0 : FVec Ideal S128x65536 .f32) (ix2 i l) = ((f ⟨i / 8, by omega⟩ ⟨i % 8, by omega⟩ l : ℝ) : EReal) := by
  entry_read
  pointwise
  exact hf _ _ _

/-- Grid point `t`'s block of the argument holds eight signals. -/
theorem input_at (hf : ∀ b s (l : Fin 65536), (m ((c : Thread nD τ).loc main_arg0) : FVec Ideal S16x8x65536 .f32) (ix3 b s l) = ((f b s l : ℝ) : EReal))
    (t : Fin cfg0.N) : At (n := 65536) (iblk m c 0 t : Vec Ideal S8x65536 .f32) fun a => f ⟨t, t.2⟩ a := by
  intro a l
  have ht : (t : ℕ) < 16 := t.2
  have ha := a.2
  have e : ((cfg0.win 0).blk t).view.emb (ix2 a l : S8x65536.Idx) = (ix2 ⟨8 * t + a, by omega⟩ l : S128x65536.Idx) := by
    blk_ext [idx_in t]
  show (V m c main_v0 : FVec Ideal S128x65536 .f32) (((cfg0.win 0).blk t).view.emb (ix2 a l : S8x65536.Idx)) = _
  rw [e, entry_at m c hf]
  have e0 : (⟨(8 * (t : ℕ) + a) / 8, by omega⟩ : Fin 16) = ⟨t, t.2⟩ := Fin.ext (by simp only; omega)
  have e1 : (⟨(8 * (t : ℕ) + a) % 8, by omega⟩ : Fin 8) = a := Fin.ext (by simp only; omega)
  exact congrArg₂ (fun x y => ((f x y l : ℝ) : EReal)) e0 e1

/-- What a grid point leaves in the result's block: two passes of its eight signals. -/
theorem outs_at (hf : ∀ b s (l : Fin 65536), (m ((c : Thread nD τ).loc main_arg0) : FVec Ideal S16x8x65536 .f32) (ix3 b s l) = ((f b s l : ℝ) : EReal))
    (t : Fin cfg0.N) : At (n := 65536) (outsAt0 m c t) fun a => step (step (f ⟨t, t.2⟩ a)) := by
  intro a l
  unfold outsAt0 out0_A_1
  rw [View.read_writes_junk_eq_canon]
  unfold kernelRun0_A
  dsimp only
  refine (canon_hit inb_S8x65536_S8x65536_0_0 _ [] a l l (Nat.zero_add _).symm).trans ?_
  exact block_at c (ms0_0 t) (hs0_0 t) scM0_0 scM0_1 scM0_2 scM0_3 scM0_4 _ (input_at m c hf t) a l

/-- The result array after the run: two passes of every signal. -/
theorem final (hf : ∀ b s (l : Fin 65536), (m ((c : Thread nD τ).loc main_arg0) : FVec Ideal S16x8x65536 .f32) (ix3 b s l) = ((f b s l : ℝ) : EReal)) :
    (dats m 0 c).arrAt 1 cfg0.N = result f := by
  refine (dats m 0 c).arrAt_eq_of_covers 1 _ (by decide +kernel) fun t hfl y => ?_
  blk_simp
  rw [after0_1]
  have h := outs_at m c hf t (y 0) (y 1)
  have ht : (t : ℕ) < 16 := t.2
  have hy0 : (y 0 : ℕ) < 8 := (y 0).2
  have hy1 : (y 1 : ℕ) < 65536 := (y 1).2
  have e : (win0_1.blk t).view.emb y = (ix2 ⟨8 * t + y 0, by omega⟩ ⟨y 1, hy1⟩ : S128x65536.Idx) := by
    blk_ext [idx_out t]
  have ey : y = (ix2 ⟨y 0, hy0⟩ ⟨y 1, hy1⟩ : S8x65536.Idx) := by
    funext b
    fin_cases b <;> rfl
  rw [e]
  refine (congrArg (outsAt0 m c t) ey).trans (h.trans ?_)
  have e0 : (⟨(8 * (t : ℕ) + y 0) / 8, by omega⟩ : Fin 16) = ⟨t, t.2⟩ := Fin.ext (by simp only; omega)
  have e1 : (⟨(8 * (t : ℕ) + y 0) % 8, by omega⟩ : Fin 8) = ⟨y 0, hy0⟩ := Fin.ext (by simp only; omega)
  exact (congrArg₂ (fun x z => ((step (step (f x z)) (y 1) : ℝ) : EReal)) e0 e1).symm

end Cert.KernelIdeal.Denoise

end

end
-- ==== Proof.RefTerms.lean ====
module

public import proofs.«01_k».proof.Proof.Model
public import proofs.«01_k».proof.Proof.Gen.ReferenceIdeal
public import Idealize.ShloMosaic.Lib.Pointwise
public import Idealize.ShloMosaic.Lib.WordCmp

/-! # One pass of the reference, as terms over a signal array

The reference's operations of one pass, split at the steps of the computation. -/

@[expose] public section

set_option maxRecDepth 16384

noncomputable section

namespace Cert.ReferenceIdeal.Denoise

open Cert.ReferenceIdeal Cert.ReferenceIdeal.Gen Idealize.ShloMosaic Idealize.ShloMosaic.TcCoe Idealize.SL.Sem Cert.Denoise

/-- The array type of the signals. -/
abbrev Sig3 : Type := FVec Ideal S16x8x65536 .f32

/-- The quotient of two constants, at the shape of one element. -/
def ratio (a b : BitVec 32) : FVec Ideal S1x1x1 .f32 :=
  Host.divf (broadcastInDim S1x1x1 ![] bcast_S_S1x1x1 (constant (F := Ideal) S_ .f32 a))
    (broadcastInDim S1x1x1 ![] bcast_S_S1x1x1 (constant (F := Ideal) S_ .f32 b))

/-- The 5 samples after the first, backwards. -/
def head5 (A : Sig3) : FVec Ideal S16x8x5 .f32 :=
  Host.reverse [2] (extractStridedSlice S16x8x5 ![0, 0, 1] A slices_S16x8x65536_S16x8x5_0_0_1)

/-- The signal with 5 reflected samples before it. -/
def front5 (A : Sig3) : FVec Ideal S16x8x65541 .f32 :=
  concatenate S16x8x65541 2 [⟨S16x8x5, head5 A⟩, ⟨S16x8x65536, A⟩] concatenates_S16x8x5_S16x8x65536_S16x8x65541_d2

/-- The 5 samples before the last, backwards. -/
def tail5 (A : Sig3) : FVec Ideal S16x8x5 .f32 :=
  Host.reverse [2] (extractStridedSlice S16x8x5 ![0, 0, 65535] (front5 A) slices_S16x8x65541_S16x8x5_0_0_65535)

/-- The signal with 5 reflected samples on each side. -/
def padded5 (A : Sig3) : FVec Ideal S16x8x65546 .f32 :=
  concatenate S16x8x65546 2 [⟨S16x8x65541, front5 A⟩, ⟨S16x8x5, tail5 A⟩] concatenates_S16x8x65541_S16x8x5_S16x8x65546_d2

/-- The padded signal times the tap of the mean of eleven. -/
def weighted5 (A : Sig3) : FVec Ideal S16x8x65546 .f32 :=
  mulf (padded5 A) (broadcastInDim S16x8x65546 ![0, 1, 2] bcast_S1x1x1_S16x8x65546_0_1_2 (ratio 0x3F800000#32 0x41300000#32))

/-- The mean of eleven: the sum of the shifted products. -/
def mean5 (A : Sig3) : Sig3 :=
  addf (addf (addf (addf (addf (addf (addf (addf (addf (addf (extractStridedSlice S16x8x65536 ![0, 0, 0] (weighted5 A) slices_S16x8x65546_S16x8x65536_0_0_0)
    (extractStridedSlice S16x8x65536 ![0, 0, 1] (weighted5 A) slices_S16x8x65546_S16x8x65536_0_0_1))
    (extractStridedSlice S16x8x65536 ![0, 0, 2] (weighted5 A) slices_S16x8x65546_S16x8x65536_0_0_2))
    (extractStridedSlice S16x8x65536 ![0, 0, 3] (weighted5 A) slices_S16x8x65546_S16x8x65536_0_0_3))
    (extractStridedSlice S16x8x65536 ![0, 0, 4] (weighted5 A) slices_S16x8x65546_S16x8x65536_0_0_4))
    (extractStridedSlice S16x8x65536 ![0, 0, 5] (weighted5 A) slices_S16x8x65546_S16x8x65536_0_0_5))
    (extractStridedSlice S16x8x65536 ![0, 0, 6] (weighted5 A) slices_S16x8x65546_S16x8x65536_0_0_6))
    (extractStridedSlice S16x8x65536 ![0, 0, 7] (weighted5 A) slices_S16x8x65546_S16x8x65536_0_0_7))
    (extractStridedSlice S16x8x65536 ![0, 0, 8] (weighted5 A) slices_S16x8x65546_S16x8x65536_0_0_8))
    (extractStridedSlice S16x8x65536 ![0, 0, 9] (weighted5 A) slices_S16x8x65546_S16x8x65536_0_0_9))
    (extractStridedSlice S16x8x65536 ![0, 0, 10] (weighted5 A) slices_S16x8x65546_S16x8x65536_0_0_10)

/-- The 2 samples after the first, backwards. -/
def head2 (A : Sig3) : FVec Ideal S16x8x2 .f32 :=
  Host.reverse [2] (extractStridedSlice S16x8x2 ![0, 0, 1] A slices_S16x8x65536_S16x8x2_0_0_1)

/-- The signal with 2 reflected samples before it. -/
def front2 (A : Sig3) : FVec Ideal S16x8x65538 .f32 :=
  concatenate S16x8x65538 2 [⟨S16x8x2, head2 A⟩, ⟨S16x8x65536, A⟩] concatenates_S16x8x2_S16x8x65536_S16x8x65538_d2

/-- The 2 samples before the last, backwards. -/
def tail2 (A : Sig3) : FVec Ideal S16x8x2 .f32 :=
  Host.reverse [2] (extractStridedSlice S16x8x2 ![0, 0, 65535] (front2 A) slices_S16x8x65538_S16x8x2_0_0_65535)

/-- The signal with 2 reflected samples on each side. -/
def padded2 (A : Sig3) : FVec Ideal S16x8x65540 .f32 :=
  concatenate S16x8x65540 2 [⟨S16x8x65538, front2 A⟩, ⟨S16x8x2, tail2 A⟩] concatenates_S16x8x65538_S16x8x2_S16x8x65540_d2

/-- The padded signal times the tap of the mean of five. -/
def weighted2 (A : Sig3) : FVec Ideal S16x8x65540 .f32 :=
  mulf (padded2 A) (broadcastInDim S16x8x65540 ![0, 1, 2] bcast_S1x1x1_S16x8x65540_0_1_2 (ratio 0x3F800000#32 0x40A00000#32))

/-- The mean of five: the sum of the shifted products. -/
def mean2 (A : Sig3) : Sig3 :=
  addf (addf (addf (addf (extractStridedSlice S16x8x65536 ![0, 0, 0] (weighted2 A) slices_S16x8x65540_S16x8x65536_0_0_0)
    (extractStridedSlice S16x8x65536 ![0, 0, 1] (weighted2 A) slices_S16x8x65540_S16x8x65536_0_0_1))
    (extractStridedSlice S16x8x65536 ![0, 0, 2] (weighted2 A) slices_S16x8x65540_S16x8x65536_0_0_2))
    (extractStridedSlice S16x8x65536 ![0, 0, 3] (weighted2 A) slices_S16x8x65540_S16x8x65536_0_0_3))
    (extractStridedSlice S16x8x65536 ![0, 0, 4] (weighted2 A) slices_S16x8x65540_S16x8x65536_0_0_4)

/-- The residual against the mean of five. -/
def residual (A : Sig3) : Sig3 := subf A (mean2 A)

/-- The residual less its mean over the signal. -/
def centred (R : Sig3) : Sig3 :=
  subf R (broadcastInDim S16x8x65536 ![0, 1, 2] bcast_S16x8x1_S16x8x65536_0_1_2 (Host.divf (broadcastInDim S16x8x1 ![0, 1] bcast_S16x8_S16x8x1_0_1 (Host.reduceAdd R (constant S_ .f32 0x00000000#32) reducesTo_S16x8x65536_S16x8_d2 h_S_)) (broadcastInDim S16x8x1 ![] bcast_S_S16x8x1 (constant S_ .f32 0x47800000#32))))

/-- The number of degrees of freedom. -/
def dof : FVec Ideal S_ .f32 := subf (constant S_ .f32 0x47800000#32) (sitofp .f32 (constantI S_ 32 1#32))

/-- The variance of the residual, in each signal. -/
def var (R : Sig3) : FVec Ideal S16x8x1 .f32 :=
  select (broadcastInDim S16x8x1 ![] bcast_S_S16x8x1 (cmpf .ogt dof (constant S_ .f32 0x00000000#32))) (Host.divf (broadcastInDim S16x8x1 ![0, 1] bcast_S16x8_S16x8x1_0_1 (Host.reduceAdd (mulf (centred R) (centred R)) (constant S_ .f32 0x00000000#32) reducesTo_S16x8x65536_S16x8_d2 h_S_)) (broadcastInDim S16x8x1 ![] bcast_S_S16x8x1 dof)) (broadcastInDim S16x8x1 ![] bcast_S_S16x8x1 (id (constant S_ .f32 0x7FC00000#32)))

/-- The threshold on the residual, in each signal. -/
def limit (R : Sig3) : FVec Ideal S16x8x1 .f32 :=
  mulf (maximumf (broadcastInDim S16x8x1 ![] bcast_S_S16x8x1 (id (constant S_ .f32 0x358637BD#32))) (Host.sqrt (var R))) (broadcastInDim S16x8x1 ![] bcast_S_S16x8x1 (constant S_ .f32 0x40600000#32))

/-- The residual with its spikes damped, times the weight of the detail. -/
def damped (R : Sig3) : Sig3 :=
  mulf (select (cmpf .ogt (Host.absf R) (broadcastInDim S16x8x65536 ![0, 1, 2] bcast_S16x8x1_S16x8x65536_0_1_2 (limit R))) (mulf R (broadcastInDim S16x8x65536 ![0, 1, 2] bcast_S1x1x1_S16x8x65536_0_1_2 (ratio 0x40E00000#32 0x41A00000#32))) R) (broadcastInDim S16x8x65536 ![0, 1, 2] bcast_S1x1x1_S16x8x65536_0_1_2 (ratio 0x41880000#32 0x41A00000#32))

/-- The processed signal before the overlapping windows are added up. -/
def processed (A : Sig3) : Sig3 :=
  addf (addf (mulf (broadcastInDim S16x8x65536 ![0, 1, 2] bcast_S1x1x1_S16x8x65536_0_1_2 (ratio 0x40000000#32 0x40A00000#32)) (mean2 A)) (mulf (broadcastInDim S16x8x65536 ![0, 1, 2] bcast_S1x1x1_S16x8x65536_0_1_2 (ratio 0x40400000#32 0x40A00000#32)) (mean5 A))) (damped (residual A))

/-- The sample numbers of the windows of five samples that start at every second sample, one window after another. -/
def windows : IVec S163835 32 :=
  shapeCast _ (addi (broadcastInDim S32767x5 ![0, 1] bcast_S32767x1_S32767x5_0_1 (broadcastInDim S32767x1 ![0] bcast_S32767_S32767x1_0 (muli (iotaInDim S32767 32 0) (broadcastInDim S32767 ![] bcast_S_S32767 (constantI S_ 32 2#32))))) (broadcastInDim S32767x5 ![0, 1] bcast_S1x5_S32767x5_0_1 (broadcastInDim S1x5 ![1] bcast_S5_S1x5_1 (iotaInDim S5 32 0)))) shapeCasts_S32767x5_S163835

/-- The same numbers, a negative one counted from the end (none is), as a column. -/
def places : IVec S163835x1 32 :=
  broadcastInDim S163835x1 ![0] bcast_S163835_S163835x1_0 (select (cmpi .slt windows (broadcastInDim S163835 ![] bcast_S_S163835 (constantI S_ 32 0#32))) (addi windows (broadcastInDim S163835 ![] bcast_S_S163835 (constantI S_ 32 65537#32))) windows)

/-- The processed signal with one reflected sample after it, one row per signal. -/
def rows (P : Sig3) : FVec Ideal S128x65537 .f32 :=
  shapeCast _ (concatenate S16x8x65537 2 [⟨S16x8x65536, P⟩, ⟨S16x8x1, (Host.reverse [2] (extractStridedSlice S16x8x1 ![0, 0, 65534] P slices_S16x8x65536_S16x8x1_0_0_65534))⟩] concatenates_S16x8x65536_S16x8x1_S16x8x65537_d2) shapeCasts_S16x8x65537_S128x65537

/-- The sum, at each sample, of the windows' samples that lie there. -/
def added (Q : FVec Ideal S128x65537 .f32) : FVec Ideal S128x65537 .f32 :=
  Host.scatterAdd scatter_S128x65537_S163835x1_S128x163835_0_1_1_1 (broadcastInDim S128x65537 ![] bcast_S_S128x65537 (constant S_ .f32 0x00000000#32)) places (Host.gather gather_S128x65537_S163835x1_S128x163835_0_1_n_n_1_1_1281 Q places)

/-- The number of windows that cover each sample. -/
def count : FVec Ideal S65537 .f32 :=
  Host.scatterAdd scatter_S65537_S163835x1_S163835_n_0_0_1 (broadcastInDim S65537 ![] bcast_S_S65537 (constant S_ .f32 0x00000000#32)) places (broadcastInDim S163835 ![] bcast_S_S163835 (constant S_ .f32 0x3F800000#32))

/-- The overlapping windows added up and divided by how many cover each sample, as signals again. -/
def overlapped (P : Sig3) : Sig3 :=
  extractStridedSlice S16x8x65536 ![0, 0, 0] (shapeCast _ (Host.divf (added (rows P)) (broadcastInDim S128x65537 ![0, 1] bcast_S1x65537_S128x65537_0_1 (broadcastInDim S1x65537 ![1] bcast_S65537_S1x65537_1 (maximumf (broadcastInDim S65537 ![] bcast_S_S65537 (id (constant S_ .f32 0x3F800000#32))) count)))) shapeCasts_S128x65537_S16x8x65537) slices_S16x8x65537_S16x8x65536_0_0_0

end Cert.ReferenceIdeal.Denoise

end

end
-- ==== Proof.RefValue.lean ====
module

public import proofs.«01_k».proof.Proof.RefTerms

/-! # What one pass of the reference computes

Every signal is a real-valued function of the sample number; each step of the pass is read there. -/

@[expose] public section

set_option maxRecDepth 16384

noncomputable section

namespace Cert.ReferenceIdeal.Denoise

open Cert.ReferenceIdeal Cert.ReferenceIdeal.Gen Idealize.ShloMosaic Idealize.ShloMosaic.TcCoe Idealize.SL.Sem Cert.Denoise

/-- An array of signals holds the real values `f`. -/
def Holds (A : Sig3) (f : Fin 16 → Fin 8 → ℕ → ℝ) : Prop :=
  ∀ (b : Fin 16) (c : Fin 8) (l : Fin 65536), A (ix3 b c l) = ((f b c l : ℝ) : EReal)

/-- An array read backwards along its last axis, at a position. -/
theorem reverse_at {n : ℕ} (X : FVec Ideal (⟨3, ![16, 8, n]⟩ : Shape) .f32) (b : Fin 16) (c : Fin 8) (k : Fin n) :
    Host.reverse (s := ⟨3, ![16, 8, n]⟩) [2] X (ix3 b c k) = X (ix3 b c k.rev) := by
  unfold Host.reverse
  congr 1
  funext a
  fin_cases a <;> rfl

/-- The 5 samples after the first, backwards, at a position. -/
theorem head5_at {A : Sig3} {f : Fin 16 → Fin 8 → ℕ → ℝ} (h : Holds A f) (b : Fin 16) (c : Fin 8) (k : Fin 5) :
    head5 A (ix3 b c k) = ((f b c (5 - k) : ℝ) : EReal) := by
  rw [head5]
  refine (reverse_at _ b c k).trans ?_
  pointwise
  rw [h]
  refine congrArg (fun n => ((f b c n : ℝ) : EReal)) ?_
  simp only [Fin.val_rev]; omega

/-- The signal with five reflected samples before it, at a position. -/
theorem front5_at {A : Sig3} {f : Fin 16 → Fin 8 → ℕ → ℝ} (h : Holds A f) (b : Fin 16) (c : Fin 8) (j : Fin 65541) :
    front5 A (ix3 b c j) = ((f b c (mir 5 j) : ℝ) : EReal) := by
  pointwise [front5]
  by_cases hj : (j : ℕ) < 5
  · rw [dif_pos hj, head5_at h]
    refine congrArg (fun n => ((f b c n : ℝ) : EReal)) ?_
    simp only [mir, if_pos hj]
  · rw [dif_neg hj, h]
    refine congrArg (fun n => ((f b c n : ℝ) : EReal)) ?_
    simp only [mir, if_neg hj]; rw [if_pos (by omega)]

/-- The 5 samples before the last, backwards, at a position. -/
theorem tail5_at {A : Sig3} {f : Fin 16 → Fin 8 → ℕ → ℝ} (h : Holds A f) (b : Fin 16) (c : Fin 8) (k : Fin 5) :
    tail5 A (ix3 b c k) = ((f b c (65534 - k) : ℝ) : EReal) := by
  rw [tail5]
  refine (reverse_at _ b c k).trans ?_
  pointwise
  rw [front5_at h]
  refine congrArg (fun n => ((f b c n : ℝ) : EReal)) ?_
  have := k.2
  simp only [mir, Fin.val_rev]
  rw [if_neg (by omega), if_pos (by omega)]
  omega

/-- The signal with five reflected samples on each side, at a position. -/
theorem padded5_at {A : Sig3} {f : Fin 16 → Fin 8 → ℕ → ℝ} (h : Holds A f) (b : Fin 16) (c : Fin 8) (j : Fin 65546) :
    padded5 A (ix3 b c j) = ((f b c (mir 5 j) : ℝ) : EReal) := by
  pointwise [padded5]
  by_cases hj : (j : ℕ) < 65541
  · rw [dif_pos hj, front5_at h]
  · rw [dif_neg hj, tail5_at h]
    refine congrArg (fun n => ((f b c n : ℝ) : EReal)) ?_
    simp only [mir]
    have := j.2
    rw [if_neg (by omega), if_neg (by omega)]
    omega

/-- The 2 samples after the first, backwards, at a position. -/
theorem head2_at {A : Sig3} {f : Fin 16 → Fin 8 → ℕ → ℝ} (h : Holds A f) (b : Fin 16) (c : Fin 8) (k : Fin 2) :
    head2 A (ix3 b c k) = ((f b c (2 - k) : ℝ) : EReal) := by
  rw [head2]
  refine (reverse_at _ b c k).trans ?_
  pointwise
  rw [h]
  refine congrArg (fun n => ((f b c n : ℝ) : EReal)) ?_
  simp only [Fin.val_rev]; omega

/-- The signal with two reflected samples before it, at a position. -/
theorem front2_at {A : Sig3} {f : Fin 16 → Fin 8 → ℕ → ℝ} (h : Holds A f) (b : Fin 16) (c : Fin 8) (j : Fin 65538) :
    front2 A (ix3 b c j) = ((f b c (mir 2 j) : ℝ) : EReal) := by
  pointwise [front2]
  by_cases hj : (j : ℕ) < 2
  · rw [dif_pos hj, head2_at h]
    refine congrArg (fun n => ((f b c n : ℝ) : EReal)) ?_
    simp only [mir, if_pos hj]
  · rw [dif_neg hj, h]
    refine congrArg (fun n => ((f b c n : ℝ) : EReal)) ?_
    simp only [mir, if_neg hj]; rw [if_pos (by omega)]

/-- The 2 samples before the last, backwards, at a position. -/
theorem tail2_at {A : Sig3} {f : Fin 16 → Fin 8 → ℕ → ℝ} (h : Holds A f) (b : Fin 16) (c : Fin 8) (k : Fin 2) :
    tail2 A (ix3 b c k) = ((f b c (65534 - k) : ℝ) : EReal) := by
  rw [tail2]
  refine (reverse_at _ b c k).trans ?_
  pointwise
  rw [front2_at h]
  refine congrArg (fun n => ((f b c n : ℝ) : EReal)) ?_
  have := k.2
  simp only [mir, Fin.val_rev]
  rw [if_neg (by omega), if_pos (by omega)]
  omega

/-- The signal with two reflected samples on each side, at a position. -/
theorem padded2_at {A : Sig3} {f : Fin 16 → Fin 8 → ℕ → ℝ} (h : Holds A f) (b : Fin 16) (c : Fin 8) (j : Fin 65540) :
    padded2 A (ix3 b c j) = ((f b c (mir 2 j) : ℝ) : EReal) := by
  pointwise [padded2]
  by_cases hj : (j : ℕ) < 65538
  · rw [dif_pos hj, front2_at h]
  · rw [dif_neg hj, tail2_at h]
    refine congrArg (fun n => ((f b c n : ℝ) : EReal)) ?_
    simp only [mir]
    have := j.2
    rw [if_neg (by omega), if_neg (by omega)]
    omega

/-- The word of one. -/
theorem word_one : Ideal.ofBits .f32 0x3F800000#32 = ((1 : ℝ) : EReal) := by
  rw [EReal.coe_one]; exact Ideal.ofBits_one_f32
/-- The word of eleven. -/
theorem word_eleven : Ideal.ofBits .f32 0x41300000#32 = ((11 : ℝ) : EReal) := by
  simp [Ideal.ofBits, Ideal.ieee, -EReal.coe_mul]; norm_num
/-- The word of five. -/
theorem word_five : Ideal.ofBits .f32 0x40A00000#32 = ((5 : ℝ) : EReal) := by
  simp [Ideal.ofBits, Ideal.ieee, -EReal.coe_mul]; norm_num
/-- The word of two. -/
theorem word_two : Ideal.ofBits .f32 0x40000000#32 = ((2 : ℝ) : EReal) := by
  simp [Ideal.ofBits, Ideal.ieee, -EReal.coe_mul]; norm_num
/-- The word of three. -/
theorem word_three : Ideal.ofBits .f32 0x40400000#32 = ((3 : ℝ) : EReal) := by
  simp [Ideal.ofBits, Ideal.ieee, -EReal.coe_mul]; norm_num
/-- The word of seven. -/
theorem word_seven : Ideal.ofBits .f32 0x40E00000#32 = ((7 : ℝ) : EReal) := by
  simp [Ideal.ofBits, Ideal.ieee, -EReal.coe_mul]; norm_num
/-- The word of seventeen. -/
theorem word_seventeen : Ideal.ofBits .f32 0x41880000#32 = ((17 : ℝ) : EReal) := by
  simp [Ideal.ofBits, Ideal.ieee, -EReal.coe_mul]; norm_num
/-- The word of twenty. -/
theorem word_twenty : Ideal.ofBits .f32 0x41A00000#32 = ((20 : ℝ) : EReal) := by
  simp [Ideal.ofBits, Ideal.ieee, -EReal.coe_mul]; norm_num
/-- The word of three and a half. -/
theorem word_limit : Ideal.ofBits .f32 0x40600000#32 = ((7/2 : ℝ) : EReal) := by
  simp [Ideal.ofBits, Ideal.ieee, -EReal.coe_mul]; norm_num
/-- The word of the signal's length. -/
theorem word_length : Ideal.ofBits .f32 0x47800000#32 = ((65536 : ℝ) : EReal) := by
  simp [Ideal.ofBits, Ideal.ieee, -EReal.coe_mul]; norm_num
/-- The word of the least scale. -/
theorem word_eps : Ideal.ofBits .f32 0x358637BD#32 = ((eps : ℝ) : EReal) := by
  simp [Ideal.ofBits, Ideal.ieee, -EReal.coe_mul, eps]; norm_num

/-- The mean of eleven at a sample. -/
theorem mean5_at {A : Sig3} {f : Fin 16 → Fin 8 → ℕ → ℝ} (h : Holds A f) : Holds (mean5 A) fun b c => mean 5 (f b c) := by
  intro b c l
  pointwise [mean5, weighted5, ratio]
  simp only [padded5_at h, word_eleven]
  rw [← EReal.coe_one, Ideal.div_coe (by norm_num)]
  simp only [← EReal.coe_mul, ← EReal.coe_add]
  congr 1
  simp only [mean, Finset.sum_range_succ, Finset.sum_range_zero]
  push_cast
  simp only [Nat.add_comm (l : ℕ)]
  ring_nf

/-- The mean of five at a sample. -/
theorem mean2_at {A : Sig3} {f : Fin 16 → Fin 8 → ℕ → ℝ} (h : Holds A f) : Holds (mean2 A) fun b c => mean 2 (f b c) := by
  intro b c l
  pointwise [mean2, weighted2, ratio]
  simp only [padded2_at h, word_five]
  rw [← EReal.coe_one, Ideal.div_coe (by norm_num)]
  simp only [← EReal.coe_mul, ← EReal.coe_add]
  congr 1
  simp only [mean, Finset.sum_range_succ, Finset.sum_range_zero]
  push_cast
  simp only [Nat.add_comm (l : ℕ)]
  ring_nf

/-- The residual at a sample. -/
theorem residual_at {A : Sig3} {f : Fin 16 → Fin 8 → ℕ → ℝ} (h : Holds A f) : Holds (residual A) fun b c => resid (f b c) := by
  intro b c l
  pointwise [residual]
  rw [h, mean2_at h, ← EReal.coe_sub]
  rfl

/-- A finite sum of reals, as an extended real. -/
theorem coe_sum' {n : ℕ} (g : Fin n → ℝ) : ∑ k, ((g k : ℝ) : EReal) = ((∑ k, g k : ℝ) : EReal) :=
  (map_sum (⟨⟨Real.toEReal, EReal.coe_zero⟩, EReal.coe_add⟩ : ℝ →+ EReal) _ _).symm

/-- The greater of two reals, as an extended real. -/
theorem coe_max' (a b : ℝ) : ((max a b : ℝ) : EReal) = max (a : EReal) (b : EReal) :=
  EReal.coe_strictMono.monotone.map_max

/-- The magnitude of a real, as an extended real. -/
theorem coe_abs' (a : ℝ) : ((|a| : ℝ) : EReal) = max (a : EReal) (-a) := by
  rw [← EReal.coe_neg, ← coe_max']; rfl

/-- The residual less its mean, at a sample. -/
theorem centred_at {R : Sig3} {r : Fin 16 → Fin 8 → ℕ → ℝ} (h : Holds R r) :
    Holds (centred R) fun b c l => r b c l - (∑ i : Fin 65536, r b c i) / 65536 := by
  intro b c l
  pointwise [centred]
  simp only [h _ _ _, word_length]
  rw [coe_sum', Ideal.div_coe (by norm_num), ← EReal.coe_mul, ← EReal.coe_sub]
  congr 1; ring

/-- The variance of the residual. -/
theorem var_at {R : Sig3} {r : Fin 16 → Fin 8 → ℕ → ℝ} (h : Holds R r) (b : Fin 16) (c : Fin 8) :
    var R (ix3 b c 0) = ((variance (r b c) : ℝ) : EReal) := by
  pointwise [var, dof]
  have hd : ((65536 : ℝ) : EReal) - FloatOps.sitofp (F := Ideal) FTy.f32 1#32 = ((65535 : ℝ) : EReal) := by
    have : (FloatOps.sitofp (F := Ideal) FTy.f32 1#32 : EReal) = ((1 : ℝ) : EReal) := by
      show (((1#32 : BitVec 32).toInt : ℝ) : EReal) = _
      rw [show (1#32 : BitVec 32).toInt = 1 by decide]; norm_num
    rw [this, ← EReal.coe_sub]; norm_num
  simp only [centred_at h _ _ _, word_length, hd]
  rw [if_pos (by rw [← EReal.coe_zero]; exact EReal.coe_lt_coe_iff.2 (by norm_num))]
  simp only [← EReal.coe_mul]
  rw [coe_sum', Ideal.div_coe (by norm_num), ← EReal.coe_mul]
  congr 1
  rw [variance]; ring

/-- The threshold of a signal. -/
theorem limit_at {R : Sig3} {r : Fin 16 → Fin 8 → ℕ → ℝ} (h : Holds R r) (b : Fin 16) (c : Fin 8) :
    limit R (ix3 b c 0) = ((thr (r b c) : ℝ) : EReal) := by
  pointwise [limit, id]
  rw [var_at h, word_eps, word_limit, Ideal.sqrt_coe, if_neg (not_lt.2 (variance_nonneg _)), ← coe_max', ← EReal.coe_mul]
  rfl

/-- The damped residual at a sample. -/
theorem damped_at {R : Sig3} {r : Fin 16 → Fin 8 → ℕ → ℝ} (h : Holds R r) :
    Holds (damped R) fun b c l => (if thr (r b c) < |r b c l| then r b c l * (7/20) else r b c l) * (17/20) := by
  intro b c l
  pointwise [damped, ratio]
  rw [limit_at h, h]
  rw [show (FloatOps.absf (F := Ideal) (φ := FTy.f32) ((r b c l : ℝ) : EReal) : EReal) = ((|r b c l| : ℝ) : EReal) from (coe_abs' _).symm]
  rw [word_seven, word_seventeen, word_twenty, Ideal.div_coe (by norm_num), Ideal.div_coe (by norm_num)]
  simp only [EReal.coe_lt_coe_iff, ← EReal.coe_mul]
  split_ifs
  · rw [← EReal.coe_mul]; congr 1; ring
  · rw [← EReal.coe_mul]; congr 1; ring

/-- The processed signal at a sample is one pass of the denoiser. -/
theorem processed_at {A : Sig3} {f : Fin 16 → Fin 8 → ℕ → ℝ} (h : Holds A f) : Holds (processed A) fun b c => step (f b c) := by
  intro b c l
  pointwise [processed, ratio]
  rw [mean2_at h, mean5_at h, damped_at (residual_at h), word_two, word_three, word_five, Ideal.div_coe (by norm_num),
    Ideal.div_coe (by norm_num)]
  simp only [← EReal.coe_mul, ← EReal.coe_add]
  congr 1
  simp only [step, blend]; ring

end Cert.ReferenceIdeal.Denoise

end

end
-- ==== Proof.RefOverlap.lean ====
module

public import proofs.«01_k».proof.Proof.RefValue

/-! # Adding the overlapping windows up and dividing by the count gives every sample back

Each window's sample `n` is read at place `place n` and added back at the same place, and every place is covered. -/

@[expose] public section

set_option maxRecDepth 16384

noncomputable section

namespace Cert.ReferenceIdeal.Denoise

open Cert.ReferenceIdeal Cert.ReferenceIdeal.Gen Idealize.ShloMosaic Idealize.ShloMosaic.TcCoe Idealize.SL.Sem Cert.Denoise

/-- The place of a window's sample. -/
def place (n : Fin 163835) : Fin 65537 := ⟨2 * (n / 5) + n % 5, by have := n.2; omega⟩

/-- The windows' sample numbers, as words. -/
theorem windows_at (n : Fin 163835) : windows (ix1 n) = BitVec.ofNat 32 (place n : ℕ) := by
  pointwise [windows]
  apply BitVec.eq_of_toNat_eq
  have := n.2
  simp only [place, IntOp.addi, IntOp.muli, BitVec.toNat_add, BitVec.toNat_mul, BitVec.toNat_ofNat]
  omega

/-- The windows' sample numbers, as a column of words. -/
theorem places_at (n : Fin 163835) : places (ix2 n 0) = BitVec.ofNat 32 (place n : ℕ) := by
  pointwise [places]
  have hp := (place n).2
  rw [windows_at, WordCmp.cmpi_slt_ofNat (a := place n) (b := 0) (by omega) (by omega), decide_eq_false (by omega)]
  rfl

/-- A place's word, read as a signed integer. -/
theorem place_toInt (n : Fin 163835) : (BitVec.ofNat 32 (place n : ℕ)).toInt = ((place n : ℕ) : ℤ) := by
  have := (place n).2
  rw [BitVec.toInt_eq_toNat_of_lt (by simp only [BitVec.toNat_ofNat]; omega)]
  simp only [BitVec.toNat_ofNat]; omega

/-- What the gather reads for window sample `n` of row `i`. -/
theorem gather_at (Q : FVec Ideal S128x65537 .f32) (i : Fin 128) (n : Fin 163835) :
    Host.gather gather_S128x65537_S163835x1_S128x163835_0_1_n_n_1_1_1281 Q places (ix2 i n) = Q (ix2 i (place n)) := by
  unfold Host.gather
  congr 1
  funext a
  apply Fin.ext
  have h0 : places (gather_S128x65537_S163835x1_S128x163835_0_1_n_n_1_1_1281.siIdx (ix2 i n) ⟨0, by decide⟩) = BitVec.ofNat 32 (place n : ℕ) := by
    rw [← places_at]
    congr 1
    funext b
    fin_cases b <;> rfl
  have hp := (place n).2
  fin_cases a
  · show gather_S128x65537_S163835x1_S128x163835_0_1_n_n_1_1_1281.start _ _ 0 + gather_S128x65537_S163835x1_S128x163835_0_1_n_n_1_1_1281.batchCoord _ 0 + gather_S128x65537_S163835x1_S128x163835_0_1_n_n_1_1_1281.offCoord _ 0 = (i : ℕ)
    simp only [GatherDims.start, GatherDims.batchCoord, GatherDims.offCoord]
    rw [dif_neg (by decide), dif_neg (by decide), dif_pos (by decide)]
    exact (Nat.zero_add _).trans rfl
  · show gather_S128x65537_S163835x1_S128x163835_0_1_n_n_1_1_1281.start _ _ 1 + gather_S128x65537_S163835x1_S128x163835_0_1_n_n_1_1_1281.batchCoord _ 1 + gather_S128x65537_S163835x1_S128x163835_0_1_n_n_1_1_1281.offCoord _ 1 = (place n : ℕ)
    simp only [GatherDims.start, GatherDims.batchCoord, GatherDims.offCoord]
    rw [dif_pos (by decide), dif_neg (by decide), dif_neg (by decide)]
    refine (congrArg (fun w : BitVec 32 => min w.toInt.toNat _) h0).trans ?_
    rw [place_toInt]
    show min (place n : ℕ) (65537 - 1) = _
    omega

/-- Where the scatter adds window sample `n` of row `i`. -/
theorem scatter_at (i : Fin 128) (n : Fin 163835) :
    scatter_S128x65537_S163835x1_S128x163835_0_1_1_1.resultIdx? (ix2 i n) places = some (ix2 i (place n)) := by
  have h0 : places (scatter_S128x65537_S163835x1_S128x163835_0_1_1_1.siIdx (ix2 i n) ⟨0, by decide⟩) = BitVec.ofNat 32 (place n : ℕ) := by
    rw [← places_at]
    congr 1
    funext b
    fin_cases b <;> rfl
  have hp := (place n).2
  have hi := i.2
  have hs0 : scatter_S128x65537_S163835x1_S128x163835_0_1_1_1.start (ix2 i n) places 0 = 0 := by
    simp only [ScatterDims.start]; rw [dif_neg (by decide)]
  have hs1 : scatter_S128x65537_S163835x1_S128x163835_0_1_1_1.start (ix2 i n) places 1 = (place n : ℕ) := by
    simp only [ScatterDims.start]; rw [dif_pos (by decide)]
    exact (congrArg BitVec.toInt h0).trans (place_toInt n)
  have hw0 : scatter_S128x65537_S163835x1_S128x163835_0_1_1_1.window (ix2 i n) 0 = i := by
    simp only [ScatterDims.window]; rw [dif_pos (by decide)]; rfl
  have hw1 : scatter_S128x65537_S163835x1_S128x163835_0_1_1_1.window (ix2 i n) 1 = 0 := by
    simp only [ScatterDims.window]; rw [dif_neg (by decide)]
  have hall : ∀ a, scatter_S128x65537_S163835x1_S128x163835_0_1_1_1.start (ix2 i n) places a + scatter_S128x65537_S163835x1_S128x163835_0_1_1_1.window (ix2 i n) a = ((ix2 i (place n) a : Fin _) : ℕ) := by
    intro a
    fin_cases a
    · refine (congrArg₂ (fun (x : ℤ) (y : ℕ) => x + y) hs0 hw0).trans ?_; simp
    · refine (congrArg₂ (fun (x : ℤ) (y : ℕ) => x + y) hs1 hw1).trans ?_; simp
  unfold ScatterDims.resultIdx?
  rw [dif_pos (fun a => by rw [hall a]; exact ⟨Int.natCast_nonneg _, by exact_mod_cast (ix2 i (place n) a).2⟩)]
  congr 1
  funext a
  apply Fin.ext
  show (_ : ℤ).toNat = _
  rw [hall a]; rfl

/-- Where the count adds window sample `n`. -/
theorem scatter1_at (n : Fin 163835) :
    scatter_S65537_S163835x1_S163835_n_0_0_1.resultIdx? (ix1 n) places = some (ix1 (place n)) := by
  have h0 : places (scatter_S65537_S163835x1_S163835_n_0_0_1.siIdx (ix1 n) ⟨0, by decide⟩) = BitVec.ofNat 32 (place n : ℕ) := by
    rw [← places_at]
    congr 1
    funext b
    fin_cases b <;> rfl
  have hs1 : scatter_S65537_S163835x1_S163835_n_0_0_1.start (ix1 n) places 0 = (place n : ℕ) := by
    simp only [ScatterDims.start]; rw [dif_pos (by decide)]
    exact (congrArg BitVec.toInt h0).trans (place_toInt n)
  have hw1 : scatter_S65537_S163835x1_S163835_n_0_0_1.window (ix1 n) 0 = 0 := by
    simp only [ScatterDims.window]; rw [dif_neg (by decide)]
  have hall : ∀ a, scatter_S65537_S163835x1_S163835_n_0_0_1.start (ix1 n) places a + scatter_S65537_S163835x1_S163835_n_0_0_1.window (ix1 n) a = ((ix1 (place n) a : Fin _) : ℕ) := by
    intro a
    fin_cases a
    refine (congrArg₂ (fun (x : ℤ) (y : ℕ) => x + y) hs1 hw1).trans ?_; simp
  unfold ScatterDims.resultIdx?
  rw [dif_pos (fun a => by rw [hall a]; exact ⟨Int.natCast_nonneg _, by exact_mod_cast (ix1 (place n) a).2⟩)]
  congr 1
  funext a
  apply Fin.ext
  show (_ : ℤ).toNat = _
  rw [hall a]; rfl

/-- The number of window samples at a place. -/
def cover (l : Fin 65537) : ℝ := ∑ n : Fin 163835, if place n = l then 1 else 0

/-- Every place is covered. -/
theorem one_le_cover (l : Fin 65537) : 1 ≤ cover l := by
  have hl := l.2
  obtain ⟨n, hn⟩ : ∃ n : Fin 163835, place n = l := by
    by_cases h : (l : ℕ) = 65536
    · exact ⟨⟨163834, by omega⟩, Fin.ext (by simp only [place]; omega)⟩
    · by_cases h' : 65534 ≤ (l : ℕ)
      · exact ⟨⟨163832 + (l - 65534), by omega⟩, Fin.ext (by simp only [place]; omega)⟩
      · exact ⟨⟨5 * (l / 2) + l % 2, by omega⟩, Fin.ext (by simp only [place]; omega)⟩
  have h1 : (if place n = l then (1 : ℝ) else 0) = 1 := if_pos hn
  rw [← h1]
  exact Finset.single_le_sum (f := fun n => if place n = l then (1 : ℝ) else 0)
    (fun _ _ => by split_ifs <;> norm_num) (Finset.mem_univ n)

/-- A sum whose first term is zero. -/
theorem zero_add_of (z a : EReal) (h : z = 0) : z + a = a := by rw [h, zero_add]

/-- The windows' samples added up at a place of a row. -/
theorem added_at {Q : FVec Ideal S128x65537 .f32} (i : Fin 128) (l : Fin 65537) {q : ℝ} (h : Q (ix2 i l) = (q : EReal)) :
    added Q (ix2 i l) = ((cover l * q : ℝ) : EReal) := by
  refine (zero_add_of _ _ (by pointwise)).trans ?_
  rw [Finset.sum_filter, sum_idx2, Finset.sum_eq_single i]
  · rw [cover, Finset.sum_mul, ← coe_sum']
    refine Finset.sum_congr rfl fun n _ => ?_
    rw [scatter_at, gather_at]
    by_cases hn : place n = l
    · rw [if_pos (by rw [hn]), if_pos hn, hn, h, one_mul]
    · rw [if_neg (fun e => hn ((ix2_inj ..).1 (Option.some.inj e)).2), if_neg hn, zero_mul, EReal.coe_zero]
  · intro i' _ hi
    refine Finset.sum_eq_zero fun n _ => ?_
    rw [scatter_at, if_neg (fun e => hi ((ix2_inj ..).1 (Option.some.inj e)).1)]
  · exact fun h => absurd (Finset.mem_univ i) h

/-- The number of windows at a place. -/
theorem count_at (l : Fin 65537) : count (ix1 l) = ((cover l : ℝ) : EReal) := by
  refine (zero_add_of _ _ (by pointwise)).trans ?_
  rw [Finset.sum_filter, sum_idx1, cover, ← coe_sum']
  refine Finset.sum_congr rfl fun n _ => ?_
  show (if scatter_S65537_S163835x1_S163835_n_0_0_1.resultIdx? (ix1 n) places = some (ix1 l) then _ else _) = _
  rw [scatter1_at]
  by_cases hn : place n = l
  · rw [if_pos (by rw [hn]), if_pos hn]
    pointwise
    rw [EReal.coe_one]
  · rw [if_neg (fun e => hn (congrFun (Option.some.inj e) 0)), if_neg hn, EReal.coe_zero]

/-- The rows at a place, before the last. -/
theorem rows_at {P : Sig3} {f : Fin 16 → Fin 8 → ℕ → ℝ} (h : Holds P f) (i : Fin 128) (l : Fin 65537) (hl : (l : ℕ) < 65536) :
    rows P (ix2 i l) = ((f ⟨i / 8, by omega⟩ ⟨i % 8, by omega⟩ l : ℝ) : EReal) := by
  pointwise [rows]
  rw [dif_pos hl, h]

/-- Adding the overlapping windows up and dividing by the count gives the signals back. -/
theorem overlapped_at {P : Sig3} {f : Fin 16 → Fin 8 → ℕ → ℝ} (h : Holds P f) : Holds (overlapped P) f := by
  intro b c l
  pointwise [overlapped, id]
  have hl := l.2
  have hq := rows_at h (⟨b * 8 + c, by omega⟩ : Fin 128) (⟨l, by omega⟩ : Fin 65537) hl
  rw [added_at _ _ hq, count_at, ← EReal.coe_one, ← coe_max', max_eq_right (one_le_cover _),
    Ideal.div_coe (by have := one_le_cover (⟨l, by omega⟩ : Fin 65537); positivity), ← EReal.coe_mul]
  refine congrArg Real.toEReal ?_
  have hc : cover (⟨l, by omega⟩ : Fin 65537) ≠ 0 := by have := one_le_cover (⟨l, by omega⟩ : Fin 65537); positivity
  have e1 : (⟨(b * 8 + c : ℕ) / 8, by omega⟩ : Fin 16) = b := Fin.ext (by simp only; omega)
  have e2 : (⟨(b * 8 + c : ℕ) % 8, by omega⟩ : Fin 8) = c := Fin.ext (by simp only; omega)
  simp only [e1, e2]
  field_simp

end Cert.ReferenceIdeal.Denoise

end

end
-- ==== Proof.RefRun.lean ====
module

public import proofs.«01_k».proof.Proof.RefOverlap
public import proofs.«01_k».proof.Proof.Gen.ReferenceIdeal.Run

/-! # The reference's result

The reference's run is two passes of the signals, written one signal per row. -/

@[expose] public section

set_option maxRecDepth 16384

noncomputable section

namespace Cert.ReferenceIdeal.Denoise

open Cert.ReferenceIdeal Cert.ReferenceIdeal.Gen Cert.ReferenceIdeal.Value Idealize.ShloMosaic Idealize.ShloMosaic.TcCoe Idealize.SL.Sem Cert.Denoise

variable (V0 : Valuation τ sig (Elt Ideal))

/-- The first pass's processed signals. -/
theorem processed1 : res_main_v72 V0 = processed (V0 (Proc.devRef .tc main_arg0)) := rfl

/-- The first pass. -/
theorem pass1 : res_main_v114 V0 = overlapped (res_main_v72 V0) := rfl

/-- The second pass's processed signals. -/
theorem processed2 : res_main_v187 V0 = processed (res_main_v114 V0) := rfl

/-- The numbers the second pass's windows read are those of the first. -/
theorem windows2 : res_main_v198 V0 = windows := rfl

/-- Signals that hold the real values `f` end at two passes of them, one signal per row. -/
theorem result_at (m : (ℓ : Loc nD τ sig) → Buf (Elt Ideal) ℓ) (ρ : Dev nD → PrngReg) {f : Dev nD → Fin 16 → Fin 8 → ℕ → ℝ}
    (h : ∀ c : Dev nD, Holds (m ((c.tc : Thread nD τ).loc main_arg0) : Sig3) (f c)) :
    θ_run defs (onTc (τ := τ) (main (F := Ideal))) ⟨m, fun _ => 0, ρ⟩ fun r => ∀ c : Dev nD,
      (∃ X : Sig3, Holds X (fun b s => step (step (f c b s))) ∧
        r.2.mem ((c.tc : Thread nD τ).loc main_v230) = shapeCast _ X shapeCasts_S16x8x65536_S128x65536)
      ∧ r.2.mem ((c.tc : Thread nD τ).loc main_arg0) = m ((c.tc : Thread nD τ).loc main_arg0) := by
  refine (θ_run defs _ _).mono (fun r hr c => ⟨⟨overlapped (res_main_v187 (StableHlo.launchContents m c)), ?_, (hr c).1⟩, (hr c).2⟩) (run (F := Ideal) m ρ)
  rw [processed2, pass1, processed1]
  exact overlapped_at (processed_at (overlapped_at (processed_at (h c))))

end Cert.ReferenceIdeal.Denoise

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Finite
public import proofs.«01_k».proof.Proof.KerArray
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its argument and leaves every semaphore at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every named constant stands for a number that rounds to the constant the kernel holds. -/
theorem constants : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

/-- Signals that hold two passes of `f`, written one signal per row, are the kernel's result. -/
theorem rows_eq {f : Fin 16 → Fin 8 → ℕ → ℝ} {X : Cert.ReferenceIdeal.Denoise.Sig3}
    (hX : Cert.ReferenceIdeal.Denoise.Holds X fun b s => Cert.Denoise.step (Cert.Denoise.step (f b s))) :
    shapeCast Cert.ReferenceIdeal.S128x65536 X Cert.ReferenceIdeal.Gen.facts.shapeCasts_S16x8x65536_S128x65536
      = Cert.KernelIdeal.Denoise.result f := by
  funext i
  have hi : i = ix2 (i 0) (i 1) := by
    funext b
    fin_cases b <;> rfl
  rw [hi]
  pointwise [Cert.KernelIdeal.Denoise.result]
  exact hX _ _ _

/-- From a finite argument, the kernel and the reference end with the same array. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  have hf := fun c => Cert.Pre_finite.Denoise.real_of_finite (hpre c)
  refine ⟨_, (θ_run Cert.KernelIdeal.defs _ _).mono (fun r h c => ⟨(h c).1.trans
    (Cert.KernelIdeal.Denoise.final m c (f := fun b s l => if hl : l < 65536 then
      ((m ((c : Thread Cert.KernelIdeal.nD Cert.KernelIdeal.τ).loc Cert.KernelIdeal.main_arg0) : FVec Ideal Cert.KernelIdeal.S16x8x65536 .f32) (ix3 b s ⟨l, hl⟩) : EReal).toReal
      else 0) fun b s l => by simp only [l.2, dif_pos]; exact hf c b s l), (h c).2⟩) (Cert.KernelIdeal.Value.run_blocks m ρ), ?_⟩
  refine (θ_run Cert.ReferenceIdeal.defs _ _).mono (fun r h c => ?_)
    (Cert.ReferenceIdeal.Denoise.result_at m' ρ' (f := fun c b s l => if hl : l < 65536 then
      ((m ((c : Thread Cert.KernelIdeal.nD Cert.KernelIdeal.τ).loc Cert.KernelIdeal.main_arg0) : FVec Ideal Cert.KernelIdeal.S16x8x65536 .f32) (ix3 b s ⟨l, hl⟩) : EReal).toReal
      else 0) fun c b s l => by
        refine (congrFun (hagree c) _).trans ?_
        simp only [l.2, dif_pos]; exact hf c b s l)
  obtain ⟨⟨X, hX, hr⟩, ha⟩ := h c
  exact ⟨hr.trans (rows_eq hX), ha⟩

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, constants, same_result⟩

end Cert.Proof

end
